-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x4096 : Shape := ⟨3, ![2, 4096, 4096]⟩
abbrev S64x4096 : Shape := ⟨2, ![64, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S2x4096x4096 .f32) (main_arg1 : FVec F S64x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S2x4096x4096 : Shape := ⟨3, ![2, 4096, 4096]⟩
abbrev S64x4096 : Shape := ⟨2, ![64, 4096]⟩
abbrev S2x64x4096 : Shape := ⟨3, ![2, 64, 4096]⟩
abbrev S2x1x4096 : Shape := ⟨3, ![2, 1, 4096]⟩
abbrev S2x4096x64 : Shape := ⟨3, ![2, 4096, 64]⟩
abbrev S2x4096x1 : Shape := ⟨3, ![2, 4096, 1]⟩
abbrev S1x1024x2048 : Shape := ⟨3, ![1, 1024, 2048]⟩
abbrev S64x2048 : Shape := ⟨2, ![64, 2048]⟩
abbrev S1x64x1024 : Shape := ⟨3, ![1, 64, 1024]⟩
abbrev S1x1x1024 : Shape := ⟨3, ![1, 1, 1024]⟩
abbrev S64x1024 : Shape := ⟨2, ![64, 1024]⟩
abbrev S64x1 : Shape := ⟨2, ![64, 1]⟩
abbrev S1024x2048 : Shape := ⟨2, ![1024, 2048]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 8
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S2x64x4096, .i32⟩
  | .hbm, ⟨3, _⟩ => ⟨S2x1x4096, .f32⟩
  | .hbm, ⟨4, _⟩ => ⟨S2x64x4096, .f32⟩
  | .hbm, ⟨5, _⟩ => ⟨S2x4096x64, .i32⟩
  | .hbm, ⟨6, _⟩ => ⟨S2x4096x1, .f32⟩
  | .hbm, ⟨7, _⟩ => ⟨S2x4096x64, .f32⟩
  | .local _ .vmem, ⟨0, _⟩ => ⟨S1x1024x2048, .f32⟩
  | .local _ .vmem, ⟨1, _⟩ => ⟨S1x1024x2048, .f32⟩
  | .local _ .vmem, ⟨2, _⟩ => ⟨S64x2048, .f32⟩
  | .local _ .vmem, ⟨3, _⟩ => ⟨S64x2048, .f32⟩
  | .local _ .vmem, ⟨4, _⟩ => ⟨S1x64x1024, .i32⟩
  | .local _ .vmem, ⟨5, _⟩ => ⟨S1x64x1024, .i32⟩
  | .local _ .vmem, ⟨6, _⟩ => ⟨S1x1x1024, .f32⟩
  | .local _ .vmem, ⟨7, _⟩ => ⟨S1x1x1024, .f32⟩
  | .local _ .vmem, ⟨8, _⟩ => ⟨S1x64x1024, .f32⟩
  | .local _ .vmem, ⟨9, _⟩ => ⟨S1x64x1024, .f32⟩
  | .local _ .vmem, ⟨10, _⟩ => ⟨S64x1024, .f32⟩
  | .local _ .vmem, ⟨11, _⟩ => ⟨S64x1, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v10 : BitVec 1 := Scalar.cmpi .eq arg2 c1_i32_6
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x64x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S2x4096x4096 : Shape := ⟨3, ![2, 4096, 4096]⟩
abbrev S64x4096 : Shape := ⟨2, ![64, 4096]⟩
abbrev S2x4096x64 : Shape := ⟨3, ![2, 4096, 64]⟩
abbrev S_ : Shape := ⟨0, ![]⟩
abbrev S2x4096 : Shape := ⟨2, ![2, 4096]⟩
abbrev S2x4096x1 : Shape := ⟨3, ![2, 4096, 1]⟩
abbrev S1x1x64 : Shape := ⟨3, ![1, 1, 64]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S2x4096x64, .f32⟩
  | .hbm, ⟨3, _⟩ => ⟨S_, .f32⟩
  | .hbm, ⟨4, _⟩ => ⟨S2x4096, .f32⟩
  | .hbm, ⟨5, _⟩ => ⟨S_, .f32⟩
  | .hbm, ⟨6, _⟩ => ⟨S2x4096, .f32⟩
  | .hbm, ⟨7, _⟩ => ⟨S2x4096, .f32⟩
  | .hbm, ⟨8, _⟩ => ⟨S2x4096x1, .f32⟩
  | .hbm, ⟨9, _⟩ => ⟨S2x4096x64, .f32⟩
  | .hbm, ⟨10, _⟩ => ⟨S2x4096x64, .f32⟩
  | .hbm, ⟨11, _⟩ => ⟨S2x4096x64, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S2x4096x64, .f32⟩
  | .hbm, ⟨16, _⟩ => ⟨S2x4096x64, .f32⟩
  | .hbm, ⟨17, _⟩ => ⟨S2x4096x64, .i32⟩
  | .hbm, ⟨18, _⟩ => ⟨S_, .f32⟩
  | .hbm, ⟨19, _⟩ => ⟨S_, .i32⟩
  | .hbm, ⟨20, _⟩ => ⟨S2x4096, .f32⟩
  | .hbm, ⟨21, _⟩ => ⟨S2x4096, .i32⟩
  | .hbm, ⟨22, _⟩ => ⟨S2x4096x1, .i32⟩
  | .hbm, ⟨23, _⟩ => ⟨S1x1x64, .i32⟩
  | .hbm, ⟨24, _⟩ => ⟨S2x4096x64, .i32⟩
  | .hbm, ⟨25, _⟩ => ⟨S2x4096x64, .i32⟩
  | .hbm, ⟨26, _⟩ => ⟨S2x4096x64, .i1⟩
  | .hbm, ⟨27, _⟩ => ⟨S2x4096x64, .i32⟩
  | .hbm, ⟨28, _⟩ => ⟨S_, .i32⟩
  | .hbm, ⟨29, _⟩ => ⟨S_, .i32⟩
  | .hbm, ⟨30, _⟩ => ⟨S2x4096x64, .i32⟩
  | .hbm, ⟨31, _⟩ => ⟨S_, .i32⟩
  | .hbm, ⟨32, _⟩ => ⟨S2x4096x64, .i32⟩
  | .hbm, ⟨33, _⟩ => ⟨S2x4096x64, .i1⟩
  | .hbm, ⟨34, _⟩ => ⟨S2x4096x64, .i32⟩
  | .hbm, ⟨35, _⟩ => ⟨S2x4096x64, .i32⟩
  | .hbm, ⟨36, _⟩ => ⟨S_, .f32⟩
  | .hbm, ⟨37, _⟩ => ⟨S2x4096, .f32⟩
  | .hbm, ⟨38, _⟩ => ⟨S2x4096x1, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_c : Ref sig .tc := ⟨.hbm, 19, rfl⟩
abbrev main_call0_v1_0 : Ref sig .tc := ⟨.hbm, 20, rfl⟩
abbrev main_v12 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Proof.Body.lean ====
/- One grid point of the router kernel, as a triple over what its buffers hold.

   A point reads a block of tokens and a block of weight columns. A point of the first half of the columns leaves the
   product of the two in the accumulator, whatever the accumulator held; a point of the second half adds its own product
   to it, stores the three output blocks and replaces the running counts. At the first token block of a group the counts
   are cleared before anything reads them. -/
module

public import proofs.«01_k».proof.Proof.Gen.KernelIdeal.Skeleton
public import proofs.«01_k».proof.Proof.Gen.KernelIdeal.Frame
public import Idealize.ShloMosaic.Lib.VecWindow
public import Idealize.ShloMosaic.Lib.Pointwise

@[expose] public section

set_option maxRecDepth 16384

noncomputable section

namespace Cert.KernelIdeal.Router

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is at the first token block of its group: the counts are cleared. -/
abbrev atStart (i : grid0.Coords) : Prop :=
  (Scalar.cmpi .ne (Scalar.extui (Scalar.cmpi .eq (BitVec.ofNat 32 (i 1).val) 0#32)) 0#32) = 1#1
/-- The point is at the first half of the columns: the accumulator is stored. -/
abbrev atFirst (i : grid0.Coords) : Prop :=
  (Scalar.cmpi .ne (Scalar.extui (Scalar.cmpi .slt (BitVec.ofNat 32 (i 2).val) 1#32)) 0#32) = 1#1
/-- The point is at the second half of the columns: the outputs are stored. -/
abbrev atSecond (i : grid0.Coords) : Prop := k0_cond3 i = 1#1

theorem atStart_iff : ∀ t : Fin cfg0.N, atStart (grid0.coords t) ↔ t.val / 2 % 4 = 0 :=
  (by decide +kernel : ∀ t : Fin grid0.N, atStart (grid0.coords t) ↔ t.val / 2 % 4 = 0)
theorem atFirst_iff : ∀ t : Fin cfg0.N, atFirst (grid0.coords t) ↔ t.val % 2 = 0 :=
  (by decide +kernel : ∀ t : Fin grid0.N, atFirst (grid0.coords t) ↔ t.val % 2 = 0)
theorem atSecond_iff : ∀ t : Fin cfg0.N, atSecond (grid0.coords t) ↔ t.val % 2 = 1 :=
  (by decide +kernel : ∀ t : Fin grid0.N, atSecond (grid0.coords t) ↔ t.val % 2 = 1)
/-- At the first half of the columns the column coordinate is the word zero. -/
theorem column_zero : ∀ t : Fin cfg0.N, t.val % 2 = 0 → Scalar.cmpi .eq (BitVec.ofNat 32 (grid0.coords t 2).val) 0#32 = 1#1 :=
  (by decide +kernel : ∀ t : Fin grid0.N, t.val % 2 = 0 → Scalar.cmpi .eq (BitVec.ofNat 32 (grid0.coords t 2).val) 0#32 = 1#1)

/-- What a first-half point stores in the accumulator does not depend on what the accumulator held. -/
theorem pay3_eq (i : grid0.Coords) (hi : Scalar.cmpi .eq (BitVec.ofNat 32 (i 2).val) 0#32 = 1#1)
    (x : Vec F S1x1024x2048 .f32) (w : Vec F S64x2048 .f32) (a : Vec F S64x1024 .f32) : k0_pay3 i x w a = k0_pay2 x w := by
  unfold k0_pay3
  simp only [hi, shapeCast_id]
  exact if_pos rfl

/-- The counts a point works with: cleared at the start of a group, otherwise as found. -/
def counts0 (i : grid0.Coords) (n : Vec F S64x1 .f32) : Vec F S64x1 .f32 := if atStart i then k0_pay1 else n

theorem counts0_start (i : grid0.Coords) (n : Vec F S64x1 .f32) (h : atStart i) : counts0 i n = k0_pay1 := if_pos h
theorem counts0_later (i : grid0.Coords) (n : Vec F S64x1 .f32) (h : ¬ atStart i) : counts0 i n = n := if_neg h

section
variable (c : Dev nD) (i : grid0.Coords)
  (arg3 : Memref sig .tc .vmem S1x1024x2048 .f32) (harg3 : arg3.IsWhole) (arg4 : Memref sig .tc .vmem S64x2048 .f32) (harg4 : arg4.IsWhole)
  (arg5 : Memref sig .tc .vmem S1x64x1024 .i32) (harg5 : arg5.IsWhole) (arg6 : Memref sig .tc .vmem S1x1x1024 .f32) (harg6 : arg6.IsWhole)
  (arg7 : Memref sig .tc .vmem S1x64x1024 .f32) (harg7 : arg7.IsWhole) (arg8 : Memref sig .tc .vmem S64x1024 .f32) (harg8 : arg8.IsWhole)
  (arg9 : Memref sig .tc .vmem S64x1 .f32) (harg9 : arg9.IsWhole)
  (x : Vec F S1x1024x2048 .f32) (w : Vec F S64x2048 .f32) (o5 : Vec F S1x64x1024 .i32) (o6 : Vec F S1x1x1024 .f32)
  (o7 : Vec F S1x64x1024 .f32) (a : Vec F S64x1024 .f32) (n : Vec F S64x1 .f32)

/-- The seven buffers of a point, at what they hold. -/
abbrev held (x : Vec F S1x1024x2048 .f32) (w : Vec F S64x2048 .f32) (o5 : Vec F S1x64x1024 .i32) (o6 : Vec F S1x1x1024 .f32)
    (o7 : Vec F S1x64x1024 .f32) (a : Vec F S64x1024 .f32) (n : Vec F S64x1 .f32) : sProp 𝕄 :=
  iprop(owns (c : Thread nD τ) arg3 fullShare x ∗ owns (c : Thread nD τ) arg4 fullShare w ∗ owns (c : Thread nD τ) arg5 fullShare o5
    ∗ owns (c : Thread nD τ) arg6 fullShare o6 ∗ owns (c : Thread nD τ) arg7 fullShare o7 ∗ owns (c : Thread nD τ) arg8 fullShare a
    ∗ owns (c : Thread nD τ) arg9 fullShare n)

set_option maxHeartbeats 2000000 in
/-- A first-half point: the product is left in the accumulator, and no output is touched. -/
theorem first_triple (hf : atFirst i) (hs : ¬ atSecond i) (hi : Scalar.cmpi .eq (BitVec.ofNat 32 (i 2).val) 0#32 = 1#1)
    (E : Set ℕ) (K : PUnit → sProp 𝕄) :
    iprop(held c arg3 arg4 arg5 arg6 arg7 arg8 arg9 x w o5 o6 o7 a n
        ∗ (held c arg3 arg4 arg5 arg6 arg7 arg8 arg9 x w o5 o6 o7 (k0_pay2 x w) (counts0 i n) -∗ K ⟨⟩))
      ⊢ wp frame (wpE (defs₀ (F := F)) Variants.none c none) E
        (cc0__router_kernel i arg3 harg3 arg4 harg4 arg5 harg5 arg6 harg6 arg7 harg7 arg8 harg8 arg9 harg9) K := by
  by_cases h1 : atStart i
  all_goals
    simp only [cc0__router_kernel_eq_skeleton]; unfold cc0__router_kernel_skel
    unfold held owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
    obtain rfl := harg3.eq_unread hf3; obtain rfl := harg4.eq_unread hf4
    obtain rfl := harg8.eq_unread hf8; obtain rfl := harg9.eq_unread hf9
    sl_exec (disch := first | sl_exact h1 | sl_exact hf | sl_exact hs)
    sl_step
    have e3 := (View.readAt_full arg3.view (harg3.unread x) inb_S1x1024x2048_S1x1024x2048_0_0_0).trans hf3
    have e4 := (View.readAt_full arg4.view (harg4.unread w) inb_S64x2048_S64x2048_0_0).trans hf4
    iapply Hk
    isplitl [H3]
    · iexists _; isplitr; · ipureintro; exact hf3
      iexact H3
    isplitl [H4]
    · iexists _; isplitr; · ipureintro; exact hf4
      iexact H4
    isplitl [H5]
    · iexists _; isplitr
      swap; · iexact H5
      ipureintro; exact hf5
    isplitl [H6]
    · iexists _; isplitr
      swap; · iexact H6
      ipureintro; exact hf6
    isplitl [H7]
    · iexists _; isplitr
      swap; · iexact H7
      ipureintro; exact hf7
    isplitl [H8]
    · iexists _; isplitr
      swap; · iexact H8
      ipureintro; exact (View.read_writes_full ..).trans ((pay3_eq i hi _ _ _).trans (congr (congrArg k0_pay2 e3) e4))
    · iexists _; isplitr
      swap; · iexact H9
      ipureintro; first | rw [View.read_writes_full, counts0, if_pos h1] | rw [hf9, counts0, if_neg h1]

set_option maxHeartbeats 4000000 in
/-- A second-half point: the three output blocks are stored, the counts replaced, the accumulator left alone. -/
theorem second_triple (hf : ¬ atFirst i) (hs : atSecond i)
    (E : Set ℕ) (K : PUnit → sProp 𝕄) :
    iprop(held c arg3 arg4 arg5 arg6 arg7 arg8 arg9 x w o5 o6 o7 a n
        ∗ (held c arg3 arg4 arg5 arg6 arg7 arg8 arg9 x w (k0_pay12 (k0_pay2 x w) a (counts0 i n))
            (k0_pay4 (k0_pay8 (k0_pay2 x w) a) (Scalar.ofBits .f32 0x3F800000#32)) (k0_pay5 (k0_pay6 (k0_pay2 x w) a)) a
            (k0_pay11 (k0_pay2 x w) a (counts0 i n)) -∗ K ⟨⟩))
      ⊢ wp frame (wpE (defs₀ (F := F)) Variants.none c none) E
        (cc0__router_kernel i arg3 harg3 arg4 harg4 arg5 harg5 arg6 harg6 arg7 harg7 arg8 harg8 arg9 harg9) K := by
  by_cases h1 : atStart i
  all_goals
    simp only [cc0__router_kernel_eq_skeleton]; unfold cc0__router_kernel_skel
    simp only [k0_part1_eq_skeleton]
    unfold held owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
    obtain rfl := harg3.eq_unread hf3; obtain rfl := harg4.eq_unread hf4
    obtain rfl := harg8.eq_unread hf8; obtain rfl := harg9.eq_unread hf9
    sl_exec (disch := first | sl_exact h1 | sl_exact hf | sl_exact hs)
    sl_step
    have e3 := (View.readAt_full arg3.view (harg3.unread x) inb_S1x1024x2048_S1x1024x2048_0_0_0).trans hf3
    have e4 := (View.readAt_full arg4.view (harg4.unread w) inb_S64x2048_S64x2048_0_0).trans hf4
    have e8 := (View.readAt_full arg8.view (harg8.unread a) inb_S64x1024_S64x1024_0_0).trans hf8
    have d2 := congr (congrArg k0_pay2 e3) e4
    have d6 := congr (congrArg k0_pay6 d2) e8
    have d8 := congr (congrArg k0_pay8 d2) e8
    have d11 := congr (congrArg k0_pay11 d2) e8
    have d12 := congr (congrArg k0_pay12 d2) e8
    try have e9 := (View.readCov_full (Val := Elt F) arg9.view inb_S64x1_S64x1_0_0 inb_S64x1_S64x1_0_0 (k0_pay1 (F := F)) []).trans (counts0_start i n h1).symm
    try have e9 := (View.readAt_full arg9.view (harg9.unread n) inb_S64x1_S64x1_0_0).trans (hf9.trans (counts0_later i n h1).symm)
    iapply Hk
    isplitl [H3]
    · iexists _; isplitr; · ipureintro; exact hf3
      iexact H3
    isplitl [H4]
    · iexists _; isplitr; · ipureintro; exact hf4
      iexact H4
    isplitl [H5]
    · iexists _; isplitr
      swap; · iexact H5
      ipureintro; exact (View.read_writes_full ..).trans (congr d12 e9)
    isplitl [H6]
    · iexists _; isplitr
      swap; · iexact H6
      ipureintro; exact (View.read_writes_full ..).trans (congrArg (fun z => k0_pay4 z (Scalar.ofBits .f32 0x3F800000#32)) d8)
    isplitl [H7]
    · iexists _; isplitr
      swap; · iexact H7
      ipureintro; exact (View.read_writes_full ..).trans (congrArg k0_pay5 d6)
    isplitl [H8]
    · iexists _; isplitr
      swap; · iexact H8
      ipureintro; exact hf8
    · iexists _; isplitr
      swap; · iexact H9
      ipureintro; exact (View.read_writes_full ..).trans (congr d11 e9)

end

end Cert.KernelIdeal.Router

end
-- ==== Proof.Run.lean ====
/- The run of the router kernel over its sixteen points.

   The points come in pairs: block `b` of tokens (of eight: four to a group, two groups) is visited at points `2 b` and
   `2 b + 1`, once for each half of the columns. What is carried from point to point is the accumulator (between the two
   points of a block) and the counts (from block to block inside a group). -/
module

public import proofs.«01_k».proof.Proof.Body
public import Idealize.ShloMosaic.Lib.Claim

@[expose] public section

set_option maxRecDepth 16384

noncomputable section

namespace Cert.KernelIdeal.Router

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point number `n`, of sixteen. -/
def point (n : ℕ) : Fin cfg0.N := ⟨n % 16, lt_of_lt_of_eq (Nat.mod_lt _ (by norm_num)) N_0.symm⟩

theorem point_val (t : Fin cfg0.N) : point t.val = t :=
  Fin.ext (Nat.mod_eq_of_lt (lt_of_lt_of_eq t.isLt N_0))

/-- The product of the two blocks read at point `n`. -/
def product (c : Dev nD) (n : ℕ) : Vec F S64x1024 .f32 := k0_pay2 (iblk m c 0 (point n)) (iblk m c 1 (point n))

/-- The counts before block `b`: zero at the start of a group of four, else what the block before left. -/
def countsBefore (c : Dev nD) : ℕ → Vec F S64x1 .f32
  | 0 => k0_pay1
  | b + 1 => if (b + 1) % 4 = 0 then k0_pay1 else k0_pay11 (product m c (2 * b + 1)) (product m c (2 * b)) (countsBefore c b)

/-- The counts block `b` leaves. -/
def countsAfter (c : Dev nD) (b : ℕ) : Vec F S64x1 .f32 :=
  k0_pay11 (product m c (2 * b + 1)) (product m c (2 * b)) (countsBefore m c b)

theorem countsBefore_start (c : Dev nD) (b : ℕ) (h : b % 4 = 0) : countsBefore m c b = k0_pay1 := by
  cases b with
  | zero => rfl
  | succ b => exact if_pos h
theorem countsBefore_later (c : Dev nD) (b : ℕ) (h : (b + 1) % 4 ≠ 0) : countsBefore m c (b + 1) = countsAfter m c b := if_neg h

/-- The block of selected experts a block of tokens gets. -/
def outIndex (c : Dev nD) (b : ℕ) : Vec F S1x64x1024 .i32 :=
  k0_pay12 (product m c (2 * b + 1)) (product m c (2 * b)) (countsBefore m c b)
/-- Its block of largest probabilities. -/
def outProb (c : Dev nD) (b : ℕ) : Vec F S1x1x1024 .f32 :=
  k0_pay4 (k0_pay8 (product m c (2 * b + 1)) (product m c (2 * b))) (Scalar.ofBits .f32 0x3F800000#32)
/-- Its block of logits. -/
def outLogits (c : Dev nD) (b : ℕ) : Vec F S1x64x1024 .f32 :=
  k0_pay5 (k0_pay6 (product m c (2 * b + 1)) (product m c (2 * b)))

/-- The accumulator's buffer and the counts'. -/
abbrev accM : Memref sig .tc .vmem S64x1024 .f32 := Memref.whole cc0_scratch0
abbrev cntM : Memref sig .tc .vmem S64x1 .f32 := Memref.whole cc0_scratch1

/-- What the two carried buffers hold before point `n`. -/
def carried (c : Dev nD) (n : ℕ) : sProp 𝕄 :=
  if n = 0 then Pipeline.ΦA spec0 c
  else if n % 2 = 1 then
    iprop(iprop(owns (c : Thread nD τ) accM fullShare (product m c (n - 1)) ∗ owns (c : Thread nD τ) cntM fullShare (countsBefore m c (n / 2)))
      ∗ (∃ r, prngReg c r))
  else
    iprop(iprop((∃ d, owns (c : Thread nD τ) accM fullShare d) ∗ owns (c : Thread nD τ) cntM fullShare (countsAfter m c (n / 2 - 1)))
      ∗ (∃ r, prngReg c r))

theorem carried_zero (c : Dev nD) : carried m c 0 = Pipeline.ΦA spec0 c := if_pos rfl
theorem carried_odd (c : Dev nD) (n : ℕ) (h : n % 2 = 1) : carried m c n =
    iprop(iprop(owns (c : Thread nD τ) accM fullShare (product m c (n - 1)) ∗ owns (c : Thread nD τ) cntM fullShare (countsBefore m c (n / 2)))
      ∗ (∃ r, prngReg c r)) := by
  unfold carried; rw [if_neg (by omega), if_pos h]
theorem carried_even (c : Dev nD) (n : ℕ) (h0 : n ≠ 0) (h : n % 2 = 0) : carried m c n =
    iprop(iprop((∃ d, owns (c : Thread nD τ) accM fullShare d) ∗ owns (c : Thread nD τ) cntM fullShare (countsAfter m c (n / 2 - 1)))
      ∗ (∃ r, prngReg c r)) := by
  unfold carried; rw [if_neg h0, if_neg (by omega)]

/-- What the launch hands over: the two buffers at anything, and the generator's register. -/
theorem launch_eq (c : Dev nD) : (Pipeline.ΦA spec0 c : sProp 𝕄) =
    iprop(iprop((∃ d, owns (c : Thread nD τ) accM fullShare d) ∗ (∃ d, owns (c : Thread nD τ) cntM fullShare d)) ∗ (∃ r, prngReg c r)) := by
  unfold Pipeline.ΦA; rw [scopedRest0_eq]; simp only [accM, cntM, owns_whole]; try rfl

/-- The proof data of the one pipeline: the arrays as found, what the body leaves in each buffer, what is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outIndex m c (t.val / 2)
    | ⟨3, _⟩ => outProb m c (t.val / 2)
    | ⟨4, _⟩ => outLogits m c (t.val / 2)
  Φ t := carried m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outIndex m c (t.val / 2) := by dsimp only [dats]
theorem after_3 (c : Dev nD) (t : Fin cfg0.N) : (dats m 0 c).after 3 t = outProb m c (t.val / 2) := by dsimp only [dats]
theorem after_4 (c : Dev nD) (t : Fin cfg0.N) : (dats m 0 c).after 4 t = outLogits m c (t.val / 2) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The outputs are idle, and not written back, at a first-half point; live at a second-half point. -/
theorem idle_first : ∀ t : Fin cfg0.N, t.val % 2 = 0 → (cfg0.idle 2 (grid0.coords t) = true ∧ cfg0.idle 3 (grid0.coords t) = true ∧ cfg0.idle 4 (grid0.coords t) = true) :=
  (by decide +kernel : ∀ t : Fin grid0.N, t.val % 2 = 0 → (cfg0.idle 2 (grid0.coords t) = true ∧ cfg0.idle 3 (grid0.coords t) = true ∧ cfg0.idle 4 (grid0.coords t) = true))
theorem live_second : ∀ t : Fin cfg0.N, t.val % 2 = 1 → (cfg0.idle 2 (grid0.coords t) = false ∧ cfg0.idle 3 (grid0.coords t) = false ∧ cfg0.idle 4 (grid0.coords t) = false) :=
  (by decide +kernel : ∀ t : Fin grid0.N, t.val % 2 = 1 → (cfg0.idle 2 (grid0.coords t) = false ∧ cfg0.idle 3 (grid0.coords t) = false ∧ cfg0.idle 4 (grid0.coords t) = false))
theorem kept_first (w : Fin cfg0.W) (t : Fin cfg0.N) (h : (cfg0.win w).flush t = true ↔ t.val % 2 = 1) (ht : t.val % 2 = 0) :
    (cfg0.win w).flush t = false := by
  rw [← Bool.not_eq_true, h]; omega

/-- The staging memrefs at a point. -/
abbrev mem0 (t : Fin cfg0.N) : Memref sig .tc .vmem S1x1024x2048 .f32 := win0_0.stage (cfg0.slots t 0)
abbrev mem1 (t : Fin cfg0.N) : Memref sig .tc .vmem S64x2048 .f32 := win0_1.stage (cfg0.slots t 1)
abbrev mem2 (t : Fin cfg0.N) : Memref sig .tc .vmem S1x64x1024 .i32 := win0_2.stage (cfg0.slots t 2)
abbrev mem3 (t : Fin cfg0.N) : Memref sig .tc .vmem S1x1x1024 .f32 := win0_3.stage (cfg0.slots t 3)
abbrev mem4 (t : Fin cfg0.N) : Memref sig .tc .vmem S1x64x1024 .f32 := win0_4.stage (cfg0.slots t 4)

/-- What the body is handed at a point, -/
def handed (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d)))
/-- and what it gives back. -/
def given (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_0 (c : Dev nD) (t : Fin cfg0.N) :
    (dats m 0 c).leavesExact 0 t = owns (c : Thread nD τ) (mem0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (mem1 t) fullShare (iblk m c 1 t) := by
  unfold Dat.leavesExact; rw [show cfg0.idle 1 (grid0.coords t) = false from rfl, after_1]
theorem leaves_2 (c : Dev nD) (t : Fin cfg0.N) (h : t.val % 2 = 1) :
    (dats m 0 c).leavesExact 2 t = owns (c : Thread nD τ) (mem2 t) fullShare (outIndex m c (t.val / 2)) := by
  unfold Dat.leavesExact; rw [(live_second t h).1, after_2]
theorem leaves_3 (c : Dev nD) (t : Fin cfg0.N) (h : t.val % 2 = 1) :
    (dats m 0 c).leavesExact 3 t = owns (c : Thread nD τ) (mem3 t) fullShare (outProb m c (t.val / 2)) := by
  unfold Dat.leavesExact; rw [(live_second t h).2.1, after_3]
theorem leaves_4 (c : Dev nD) (t : Fin cfg0.N) (h : t.val % 2 = 1) :
    (dats m 0 c).leavesExact 4 t = owns (c : Thread nD τ) (mem4 t) fullShare (outLogits m c (t.val / 2)) := by
  unfold Dat.leavesExact; rw [(live_second t h).2.2, after_4]

/-- The product of the blocks read at a point. -/
theorem product_at (c : Dev nD) (t : Fin cfg0.N) : product m c t.val = k0_pay2 (iblk m c 0 t) (iblk m c 1 t) := by
  unfold product; rw [point_val]

/-- At a first-half point the counts a point works with are those before its block. -/
theorem counts_first (c : Dev nD) (t : Fin cfg0.N) (b : ℕ) (hb : t.val = 2 * (b + 1)) :
    counts0 (grid0.coords t) (countsAfter m c b) = countsBefore m c (b + 1) := by
  by_cases h : (b + 1) % 4 = 0
  · rw [counts0_start _ _ ((atStart_iff t).mpr (by omega)), countsBefore_start m c _ h]
  · rw [counts0_later _ _ (fun e => h (by have := (atStart_iff t).mp e; omega)), countsBefore_later m c _ h]
/-- At a second-half point clearing the counts again changes nothing. -/
theorem counts_second (c : Dev nD) (t : Fin cfg0.N) (b : ℕ) (hb : t.val = 2 * b + 1) :
    counts0 (grid0.coords t) (countsBefore m c b) = countsBefore m c b := by
  by_cases h : atStart (grid0.coords t)
  · rw [counts0_start _ _ h, countsBefore_start m c b (by have := (atStart_iff t).mp h; omega)]
  · exact counts0_later _ _ h

/-- The carried buffers after a first-half point. -/
theorem carried_after_first (c : Dev nD) (t : Fin cfg0.N) (h : t.val % 2 = 0) : carried m c (t.val + 1) =
    iprop(iprop(owns (c : Thread nD τ) accM fullShare (k0_pay2 (iblk m c 0 t) (iblk m c 1 t)) ∗ owns (c : Thread nD τ) cntM fullShare (countsBefore m c (t.val / 2)))
      ∗ (∃ r, prngReg c r)) := by
  rw [carried_odd m c _ (by omega), Nat.add_sub_cancel, product_at, show (t.val + 1) / 2 = t.val / 2 by omega]

set_option maxHeartbeats 4000000 in
/-- The body at a first-half point. -/
theorem body_first (c : Dev nD) (t : Fin cfg0.N) (h : t.val % 2 = 0) :
    handed m c t ⊢ wp frame (wpE (defs₀ (F := F)) Variants.none c none) Set.univ (bodyAt0 t) (fun _ => given m c t) := by
  have hf := (atFirst_iff t).mpr h
  have hs : ¬ atSecond (grid0.coords t) := fun e => by have := (atSecond_iff t).mp e; omega
  have hi := column_zero t h
  unfold handed given bodyAt0
  simp only [before_0, before_1]
  rw [show (dats m 0 c).owesAt () t.succ = (dats m 0 c).owesAt () t.castSucc from rfl,
    show (dats m 0 c).Φ t.succ = carried m c (t.val + 1) from rfl, show (dats m 0 c).Φ t.castSucc = carried m c t.val from rfl,
    carried_after_first m c t h, leaves_0, leaves_1,
    Dat.leavesExact_idle (dats m 0 c) 2 t (idle_first t h).1 (kept_first 2 t (flush0_2 t) h),
    Dat.leavesExact_idle (dats m 0 c) 3 t (idle_first t h).2.1 (kept_first 3 t (flush0_3 t) h),
    Dat.leavesExact_idle (dats m 0 c) 4 t (idle_first t h).2.2 (kept_first 4 t (flush0_4 t) h)]
  by_cases hz : t.val = 0
  · rw [hz, carried_zero, launch_eq, show countsBefore m c (0 / 2) = k0_pay1 from rfl]
    iintro ⟨⟨⟨⟨%a, HA⟩, ⟨%n, HN⟩⟩, Hg⟩, Ho, ⟨%d0, H0⟩, ⟨%d1, H1⟩, ⟨%d2, H2⟩, ⟨%d3, H3⟩, ⟨%d4, H4⟩⟩
    iapply (first_triple c (grid0.coords t) (mem0 t) _ (mem1 t) _ (mem2 t) _ (mem3 t) _ (mem4 t) _ accM _ cntM _ (iblk m c 0 t) (iblk m c 1 t) _ _ _ a n hf hs hi Set.univ _)
    rw [counts0_start _ n ((atStart_iff t).mpr (by omega))]
    isplitl [H0 H1 H2 H3 H4 HA HN]
    · unfold held
      isplitl [H0]; · iexact H0
      isplitl [H1]; · iexact H1
      isplitl [H2]; · iexact H2
      isplitl [H3]; · iexact H3
      isplitl [H4]; · iexact H4
      isplitl [HA]; · iexact HA
      iexact HN
    unfold held
    iintro ⟨H0, H1, H2, H3, H4, HA, HN⟩
    isplitl [HA HN Hg]
    · isplitl [HA HN]
      · isplitl [HA]; · iexact HA
        iexact HN
      iexact Hg
    isplitl [Ho]; · iexact Ho
    isplitl [H0]; · iexact H0
    isplitl [H1]; · iexact H1
    isplitl [H2]; · iexists _; iexact H2
    isplitl [H3]; · iexists _; iexact H3
    iexists _; iexact H4
  · obtain ⟨b, hb⟩ : ∃ b, t.val = 2 * (b + 1) := ⟨t.val / 2 - 1, by omega⟩
    rw [carried_even m c _ hz h, show t.val / 2 - 1 = b by omega, show t.val / 2 = b + 1 by omega, ← counts_first m c t b hb]
    iintro ⟨⟨⟨⟨%a, HA⟩, HN⟩, Hg⟩, Ho, ⟨%d0, H0⟩, ⟨%d1, H1⟩, ⟨%d2, H2⟩, ⟨%d3, H3⟩, ⟨%d4, H4⟩⟩
    iapply (first_triple c (grid0.coords t) (mem0 t) _ (mem1 t) _ (mem2 t) _ (mem3 t) _ (mem4 t) _ accM _ cntM _ (iblk m c 0 t) (iblk m c 1 t) _ _ _ a _ hf hs hi Set.univ _)
    isplitl [H0 H1 H2 H3 H4 HA HN]
    · unfold held
      isplitl [H0]; · iexact H0
      isplitl [H1]; · iexact H1
      isplitl [H2]; · iexact H2
      isplitl [H3]; · iexact H3
      isplitl [H4]; · iexact H4
      isplitl [HA]; · iexact HA
      iexact HN
    unfold held
    iintro ⟨H0, H1, H2, H3, H4, HA, HN⟩
    isplitl [HA HN Hg]
    · isplitl [HA HN]
      · isplitl [HA]; · iexact HA
        iexact HN
      iexact Hg
    isplitl [Ho]; · iexact Ho
    isplitl [H0]; · iexact H0
    isplitl [H1]; · iexact H1
    isplitl [H2]; · iexists _; iexact H2
    isplitl [H3]; · iexists _; iexact H3
    iexists _; iexact H4

set_option maxHeartbeats 4000000 in
/-- The body at a second-half point. -/
theorem body_second (c : Dev nD) (t : Fin cfg0.N) (h : t.val % 2 = 1) :
    handed m c t ⊢ wp frame (wpE (defs₀ (F := F)) Variants.none c none) Set.univ (bodyAt0 t) (fun _ => given m c t) := by
  have hf : ¬ atFirst (grid0.coords t) := fun e => by have := (atFirst_iff t).mp e; omega
  have hs := (atSecond_iff t).mpr h
  obtain ⟨b, hb⟩ : ∃ b, t.val = 2 * b + 1 := ⟨t.val / 2, by omega⟩
  have hp : product m c (2 * b + 1) = k0_pay2 (iblk m c 0 t) (iblk m c 1 t) := by rw [← hb, product_at]
  have hn := counts_second m c t b hb
  unfold handed given bodyAt0
  simp only [before_0, before_1]
  rw [show (dats m 0 c).owesAt () t.succ = (dats m 0 c).owesAt () t.castSucc from rfl,
    show (dats m 0 c).Φ t.succ = carried m c (t.val + 1) from rfl, show (dats m 0 c).Φ t.castSucc = carried m c t.val from rfl,
    carried_even m c (t.val + 1) (by omega) (by omega), carried_odd m c _ h, leaves_0, leaves_1, leaves_2 m c t h, leaves_3 m c t h, leaves_4 m c t h,
    show (t.val + 1) / 2 - 1 = b by omega, show t.val / 2 = b by omega, show t.val - 1 = 2 * b by omega]
  unfold outIndex outProb outLogits countsAfter
  rw [hp]
  iintro ⟨⟨⟨HA, HN⟩, Hg⟩, Ho, ⟨%d0, H0⟩, ⟨%d1, H1⟩, ⟨%d2, H2⟩, ⟨%d3, H3⟩, ⟨%d4, H4⟩⟩
  iapply (second_triple c (grid0.coords t) (mem0 t) _ (mem1 t) _ (mem2 t) _ (mem3 t) _ (mem4 t) _ accM _ cntM _ (iblk m c 0 t) (iblk m c 1 t) _ _ _ (product m c (2 * b)) (countsBefore m c b) hf hs Set.univ _)
  rw [hn]
  isplitl [H0 H1 H2 H3 H4 HA HN]
  · unfold held
    isplitl [H0]; · iexact H0
    isplitl [H1]; · iexact H1
    isplitl [H2]; · iexact H2
    isplitl [H3]; · iexact H3
    isplitl [H4]; · iexact H4
    isplitl [HA]; · iexact HA
    iexact HN
  unfold held
  iintro ⟨H0, H1, H2, H3, H4, HA, HN⟩
  isplitl [HA HN Hg]
  · isplitl [HA HN]
    · isplitl [HA]; · iexists _; iexact HA
      iexact HN
    iexact Hg
  isplitl [Ho]; · iexact Ho
  isplitl [H0]; · iexact H0
  isplitl [H1]; · iexact H1
  isplitl [H2]; · iexact H2
  isplitl [H3]; · iexact H3
  iexact H4

theorem body_any (c : Dev nD) (t : Fin cfg0.N) :
    handed m c t ⊢ wp frame (wpE (defs₀ (F := F)) Variants.none c none) Set.univ (bodyAt0 t) (fun _ => given m c t) := by
  rcases Nat.mod_two_eq_zero_or_one t.val with h | h
  · exact body_first m c t h
  · exact body_second m c t h

/-- The body table's row at a point. -/
theorem table_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (body_any m c t) rfl .rfl fun _ => .rfl

theorem carried_in (c : Dev nD) : Pipeline.ΦA spec0 c ⊢ (dats m 0 c).Φ 0 := by
  rw [show (dats m 0 c).Φ 0 = carried m c 0 from rfl, carried_zero]

theorem carried_out (c : Dev nD) : (dats m 0 c).Φ (Fin.last cfg0.N) ⊢ Pipeline.ΦA spec0 c := by
  rw [show (dats m 0 c).Φ (Fin.last cfg0.N) = carried m c cfg0.N from rfl, show cfg0.N = 16 from N_0,
    carried_even m c 16 (by norm_num) (by norm_num), launch_eq]
  iintro ⟨⟨HA, HN⟩, Hg⟩
  isplitl [HA HN]
  · isplitl [HA]
    · iexact HA
    iexists _; iexact HN
  iexact Hg

set_option backward.isDefEq.respectTransparency.types false in
set_option maxHeartbeats 800000 in
/-- The run: every array of the pipeline ends at what the proof data says was written back, every other buffer as the
    lines after the region leave it, and every semaphore counter at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := carried_in m) (hout := carried_out m)

/-- The frame: the argument arrays end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Router

end
-- ==== Proof.Transfer.lean ====
/- The frame of the program as printed, from the idealized program's: no operation was rewritten, so the two texts are one. -/
module

public import proofs.«01_k».proof.Proof.Run
public import proofs.«01_k».proof.Proof.Gen.Kernel
public import proofs.«01_k».proof.Defs

@[expose] public section

set_option maxRecDepth 65536

noncomputable section

namespace Cert.Proof

open Idealize.ShloMosaic Idealize.SL.Sem

set_option maxHeartbeats 4000000 in
/-- The two `@main`s are one. -/
theorem main_same : Cert.Kernel.main (F := Bits) = Cert.KernelIdeal.main (F := Bits) := rfl

set_option maxHeartbeats 4000000 in
/-- The two body tables are one: they have one label, and its row is the same function. -/
theorem bodies_same : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl
  | ⟨n + 1, h⟩, _ => exact absurd h (Nat.not_lt.2 (Nat.le_add_left _ _))

/-- So are the whole tables. -/
theorem tables_same : Cert.Kernel.defs (F := Bits) = Cert.KernelIdeal.defs (F := Bits) :=
  congrArg (fun d => Pipeline.defs (Cert.KernelIdeal.pcfgs (F := Bits)) d) bodies_same

set_option maxHeartbeats 4000000 in
/-- The frame of the program as printed. -/
theorem frame_printed : Cert.quiescent_Kernel := fun m ρ _ => by
  have h := Cert.KernelIdeal.Router.frame_main (F := Bits) m ρ
  rw [← main_same, ← tables_same] at h
  exact h

end Cert.Proof

end
-- ==== Proof.Reference.lean ====
/- The reference's run: a program of host operations only, so its results are its operations composed.

   The composition is named piece by piece (logits, weights, probabilities, the chosen expert, the one-hot array, the
   running counts, the kept entries), so that each piece can be read on its own. -/
module

public import proofs.«01_k».proof.ReferenceIdeal
public import proofs.«01_k».proof.Proof.Gen.ReferenceIdeal
public import Idealize.ShloMosaic.Lib.Claim
public import Idealize.ShloMosaic.PureOps.Ideal

@[expose] public section

set_option maxRecDepth 16384

noncomputable section

namespace Cert.ReferenceIdeal.Router

open Idealize.ShloMosaic Idealize.SL.Sem
open Facts₀

/-- The scores of every token for every expert. -/
def logits (x : FVec Ideal S2x4096x4096 .f32) (w : FVec Ideal S64x4096 .f32) : FVec Ideal S2x4096x64 .f32 :=
  Host.dotGeneral dot_S2x4096x4096_S64x4096_S2x4096x64_2_1_01_0_n_n none x w

/-- A value per token, spread over the experts. -/
def spread {α : Type} (a : S2x4096.Idx → α) : S2x4096x64.Idx → α :=
  broadcastInDim S2x4096x64 ![0, 1, 2] bcast_S2x4096x1_S2x4096x64_0_1_2
    (broadcastInDim S2x4096x1 ![0, 1] bcast_S2x4096_S2x4096x1_0_1 a)

/-- The greatest entry of every token. -/
def rowMax (l : FVec Ideal S2x4096x64 .f32) : FVec Ideal S2x4096 .f32 :=
  Host.reduce FloatOps.maximumf l (constant S_ .f32 0xFF800000#32) reducesTo_S2x4096x64_S2x4096_d2 h_S_

/-- The exponentials of the scores, each token's greatest score taken off first. -/
def weights (l : FVec Ideal S2x4096x64 .f32) : FVec Ideal S2x4096x64 .f32 :=
  Host.exp (subf l (spread (maximumf (broadcastInDim S2x4096 ![] bcast_S_S2x4096 (constant S_ .f32 0xFF800000#32)) (rowMax l))))

/-- The probabilities made of the weights. -/
def probs (u : FVec Ideal S2x4096x64 .f32) : FVec Ideal S2x4096x64 .f32 :=
  Host.divf u (spread (Host.reduceAdd u (constant S_ .f32 0x00000000#32) reducesTo_S2x4096x64_S2x4096_d2 h_S_))

/-- The first expert of greatest probability. -/
def chosen (p : FVec Ideal S2x4096x64 .f32) : IVec S2x4096 32 := fun j =>
  (Host.argReduce reducer_argmax_f32_i32 p (iotaInDim S2x4096x64 32 2) (constant S_ .f32 0xFF800000#32)
    (constantI S_ 32 0#32) reducesTo_S2x4096x64_S2x4096_d2 h_S_ j).2

/-- One at the chosen expert, zero elsewhere. -/
def oneHot (a : IVec S2x4096 32) : IVec S2x4096x64 32 :=
  extui 32 (cmpi .eq (spread a)
    (broadcastInDim S2x4096x64 ![0, 1, 2] bcast_S1x1x64_S2x4096x64_0_1_2 (iotaInDim S1x1x64 32 2))) natLt_1_32

/-- The running sums over the tokens. -/
def running (h : IVec S2x4096x64 32) : IVec S2x4096x64 32 :=
  Host.reduceWindow IntOp.addi ![1, 4096, 1] ![1, 1, 1] ![0, 4095, 0] ![0, 0, 0] h
    (broadcastInDim S_ ![] bcast_S_S_ (constantI S_ 32 0#32))
    reduceWindows_S2x4096x64_S2x4096x64_w1s1p0_0_w4096s1p4095_0_w1s1p0_0 h_S_

/-- The entries whose running sum is within the capacity. -/
def kept (h : IVec S2x4096x64 32) : IVec S2x4096x64 32 :=
  muli h (extui 32 (cmpi .sle (running h) (broadcastInDim S2x4096x64 ![] bcast_S_S2x4096x64 (constantI S_ 32 160#32))) natLt_1_32)

/-- The greatest probability of every token. -/
def best (p : FVec Ideal S2x4096x64 .f32) : FVec Ideal S2x4096x1 .f32 :=
  broadcastInDim S2x4096x1 ![0, 1] bcast_S2x4096_S2x4096x1_0_1 (rowMax p)

variable (m : (ℓ : Loc nD τ sig) → Buf (Elt Ideal) ℓ) (ρ : Dev nD → PrngReg)

/-- Every run of the reference ends with its three results as composed above and its arguments unchanged. -/
theorem run_main : θ_run (defs (F := Ideal)) (onTc (τ := τ) (main (F := Ideal))) ⟨m, fun _ => 0, ρ⟩ (fun r => ∀ c : Dev nD,
    r.2.mem ((c.tc : Thread nD τ).loc main_v18)
      = kept (oneHot (chosen (probs (weights (logits (m ((c.tc : Thread nD τ).loc main_arg0)) (m ((c.tc : Thread nD τ).loc main_arg1)))))))
    ∧ r.2.mem ((c.tc : Thread nD τ).loc main_v20)
      = best (probs (weights (logits (m ((c.tc : Thread nD τ).loc main_arg0)) (m ((c.tc : Thread nD τ).loc main_arg1)))))
    ∧ r.2.mem ((c.tc : Thread nD τ).loc main_v0) = logits (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  hlo_run
  · simp only [StableHlo.TRef.ofBuf_toBuf, StableHlo.TRef.toBuf, StableHlo.TRef.ofBuf, cast_eq]
    rfl
  · rfl
  · rfl

/-- The reference's frame: its arguments are unchanged, and it has no semaphore. -/
theorem frame_main : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m ρ) fun r h => ⟨fun c => (h c).2.2.2, sem_eq_zero_of_no_sems (by decide) r.2⟩

end Cert.ReferenceIdeal.Router
-- ==== Proof.Finite.lean ====
/- The precondition read: every entry of both arguments is a real number. -/
module

public import proofs.«01_k».proof.Pre_finite
public import Idealize.ShloMosaic.Lib.ReduceAll
public import Idealize.ShloMosaic.Lib.Pointwise
public import Idealize.ShloMosaic.Lib.Decide
public import Idealize.ShloMosaic.Lib.Claim
public import Idealize.ShloMosaic.PureOps.Ideal
public import Idealize.ShloMosaic.PureOps.Ideal.Laws

@[expose] public section

namespace Cert.Pre_finite

open Idealize.ShloMosaic

/-- The shape relations the predicate's operations take. -/
instance facts : Facts where
  bcast_S_S2x4096x4096 := by decide
  reducesTo_S2x4096x4096_S_d0_1_2 := by decide
  h_S_ := by decide
  bcast_S_S64x4096 := by decide
  reducesTo_S64x4096_S_d0_1 := by decide

instance : Subsingleton S_.Idx := ⟨fun a b => funext fun k => k.elim0⟩

/-- An entry whose absolute value is below positive infinity is a real number. -/
theorem real_of_below (a : Ideal .f32) (h : FloatOps.cmpf .olt (FloatOps.absf a) (FloatOps.ofBits .f32 0x7F800000#32) = 1#1) :
    ∃ r : ℝ, (a : EReal) = r := by
  induction a using EReal.rec with
  | bot => exact absurd h (by simp [Ideal.cmp]; decide)
  | coe r => exact ⟨r, rfl⟩
  | top => exact absurd h (by simp; decide)

/-- The predicate says that every entry of both arguments is a real number. -/
theorem real_entries (x : FVec Ideal S2x4096x4096 .f32) (w : FVec Ideal S64x4096 .f32) (h : fn x w = fun _ => 1#1) :
    (∀ i, ∃ r : ℝ, (x i : EReal) = r) ∧ ∀ i, ∃ r : ℝ, (w i : EReal) = r := by
  have h0 := congrFun h (Shape.Idx.first (by decide))
  obtain ⟨h1, h2⟩ := IntOp.andi_eq_one.1 h0
  exact ⟨fun i => real_of_below _ (Host.reduce_andi_all _ _ _ _ _ h1 i), fun i => real_of_below _ (Host.reduce_andi_all _ _ _ _ _ h2 i)⟩

end Cert.Pre_finite
-- ==== Proof.Arrays.lean ====
/- What the arrays hold after the run: each block of an output array is what the second point of its block of tokens left. -/
module

public import proofs.«01_k».proof.Proof.Run
public import Idealize.ShloMosaic.Lib.Pipeline.ValueKit

@[expose] public section

set_option maxRecDepth 16384

noncomputable section

namespace Cert.KernelIdeal.Router

open Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-- Where each window's block sits at each point. -/
theorem places : ∀ t : Fin cfg0.N,
    win0_0.index t = ![t.val / 8, t.val / 2 % 4, t.val % 2] ∧ win0_1.index t = ![0, t.val % 2]
      ∧ win0_2.index t = ![t.val / 8, 0, t.val / 2 % 4] ∧ win0_3.index t = ![t.val / 8, 0, t.val / 2 % 4]
      ∧ win0_4.index t = ![t.val / 8, 0, t.val / 2 % 4] :=
  (by decide +kernel : ∀ t : Fin grid0.N,
    win0_0.index t = ![t.val / 8, t.val / 2 % 4, t.val % 2] ∧ win0_1.index t = ![0, t.val % 2]
      ∧ win0_2.index t = ![t.val / 8, 0, t.val / 2 % 4] ∧ win0_3.index t = ![t.val / 8, 0, t.val / 2 % 4]
      ∧ win0_4.index t = ![t.val / 8, 0, t.val / 2 % 4])

/-- An array made of eight blocks of 1024 columns: four to each of two groups. -/
def placed {n : ℕ} {α : Type} (out : ℕ → (⟨3, ![1, n, 1024]⟩ : Shape).Idx → α) : (⟨3, ![2, n, 4096]⟩ : Shape).Idx → α :=
  fun i => out (4 * (i 0).val + (i 2).val / 1024) (ix3 0 (i 1) ⟨(i 2).val % 1024, Nat.mod_lt _ (by norm_num)⟩)

/-- Where an entry of a block is found in the array. -/
theorem placed_at {n : ℕ} {α : Type} (out : ℕ → (⟨3, ![1, n, 1024]⟩ : Shape).Idx → α) (b : ℕ) (y : (⟨3, ![1, n, 1024]⟩ : Shape).Idx)
    (i : (⟨3, ![2, n, 4096]⟩ : Shape).Idx) (h0 : (i 0).val = b / 4) (h1 : (i 1).val = (y 1).val)
    (h2 : (i 2).val = b % 4 * 1024 + (y 2).val) : placed out i = out b y := by
  have hy : (y 2).val < 1024 := (y 2).isLt
  have hz : (y 0).val < 1 := (y 0).isLt
  have hb : 4 * (i 0).val + (i 2).val / 1024 = b := by omega
  have hx : (ix3 0 (i 1) ⟨(i 2).val % 1024, Nat.mod_lt _ (by norm_num)⟩ : (⟨3, ![1, n, 1024]⟩ : Shape).Idx) = y := by
    funext a
    match a with
    | ⟨0, _⟩ => exact Fin.ext (by show 0 = (y 0).val; omega)
    | ⟨1, _⟩ => exact Fin.ext h1
    | ⟨2, _⟩ => exact Fin.ext (by show (i 2).val % 1024 = (y 2).val; omega)
  unfold placed
  rw [hb, hx]

theorem array_index (c : Dev nD) : (dats m 0 c).arrAt 2 cfg0.N = placed (outIndex m c) := by
  refine (dats m 0 c).arrAt_eq_of_covers 2 _ (by decide +kernel) fun t hf y => ?_
  blk_simp
  rw [after_2]
  have hp := (places t).2.2.1
  have ht : t.val < 16 := lt_of_lt_of_eq t.isLt N_0
  refine (placed_at _ _ y _ ?_ ?_ ?_).symm <;> blk_simp [hp] <;> idx_bounds y <;> omega

theorem array_prob (c : Dev nD) : (dats m 0 c).arrAt 3 cfg0.N = placed (outProb m c) := by
  refine (dats m 0 c).arrAt_eq_of_covers 3 _ (by decide +kernel) fun t hf y => ?_
  blk_simp
  rw [after_3]
  have hp := (places t).2.2.2.1
  have ht : t.val < 16 := lt_of_lt_of_eq t.isLt N_0
  refine (placed_at _ _ y _ ?_ ?_ ?_).symm <;> blk_simp [hp] <;> idx_bounds y <;> omega

theorem array_logits (c : Dev nD) : (dats m 0 c).arrAt 4 cfg0.N = placed (outLogits m c) := by
  refine (dats m 0 c).arrAt_eq_of_covers 4 _ (by decide +kernel) fun t hf y => ?_
  blk_simp
  rw [after_4]
  have hp := (places t).2.2.2.2
  have ht : t.val < 16 := lt_of_lt_of_eq t.isLt N_0
  refine (placed_at _ _ y _ ?_ ?_ ?_).symm <;> blk_simp [hp] <;> idx_bounds y <;> omega

theorem run_results : θ_run defs (onTc (τ := τ) (main (F := F))) ⟨m, fun _ => 0, ρ⟩ (fun r => ∀ c : Dev nD,
    r.2.mem ((c.tc : Thread nD τ).loc main_v0_0) = transpose S2x4096x64 [0, 2, 1] (placed (outIndex m c)) Facts₀.transposes_S2x64x4096_S2x4096x64_0_2_1
    ∧ r.2.mem ((c.tc : Thread nD τ).loc main_v0_1) = transpose S2x4096x1 [0, 2, 1] (placed (outProb m c)) Facts₀.transposes_S2x1x4096_S2x4096x1_0_2_1
    ∧ r.2.mem ((c.tc : Thread nD τ).loc main_v0_2) = transpose S2x4096x64 [0, 2, 1] (placed (outLogits m c)) Facts₀.transposes_S2x64x4096_S2x4096x64_0_2_1
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine θ_run_mono (θ_run_and (run_main m ρ) (frame_main m ρ)) fun r h c => ⟨?_, ?_, ?_, h.2.1 c⟩
  · refine ((h.1.1 c).2 _ (by decide)).trans ?_
    unfold Pipeline.afterTail₀
    simp only [List.flatten_cons, List.flatten_nil, List.append_nil, hostOps1]
    after_results_simp
    exact congrArg (fun a => transpose S2x4096x64 [0, 2, 1] a _) ((Dat.withArrays_arrAt (dats m 0 c) (by decide) (V0 m c) (A_eq m c) 2).trans (array_index m c))
  · refine ((h.1.1 c).2 _ (by decide)).trans ?_
    unfold Pipeline.afterTail₀
    simp only [List.flatten_cons, List.flatten_nil, List.append_nil, hostOps1]
    after_results_simp
    exact congrArg (fun a => transpose S2x4096x1 [0, 2, 1] a _) ((Dat.withArrays_arrAt (dats m 0 c) (by decide) (V0 m c) (A_eq m c) 3).trans (array_prob m c))
  · refine ((h.1.1 c).2 _ (by decide)).trans ?_
    unfold Pipeline.afterTail₀
    simp only [List.flatten_cons, List.flatten_nil, List.append_nil, hostOps1]
    after_results_simp
    exact congrArg (fun a => transpose S2x4096x64 [0, 2, 1] a _) ((Dat.withArrays_arrAt (dats m 0 c) (by decide) (V0 m c) (A_eq m c) 4).trans (array_logits m c))

end Cert.KernelIdeal.Router
-- ==== Proof.Column.lean ====
/- One token's column of scores: its first greatest entry, and the two ways in which that entry is found.

   Nothing here names either program. -/
module

public import Idealize.ShloMosaic.Lib.Pointwise
public import Idealize.ShloMosaic.PureOps.Ideal
public import Idealize.ShloMosaic.PureOps.Ideal.Laws

@[expose] public section

noncomputable section

namespace Cert.Router

open Idealize.ShloMosaic

/-- Entry `k` is greatest, and greater than every entry before it. -/
def IsFirst (s : Fin 64 → EReal) (k : Fin 64) : Prop := (∀ j, s j ≤ s k) ∧ ∀ j, j < k → s j < s k

theorem IsFirst.unique {s : Fin 64 → EReal} {k k' : Fin 64} (h : IsFirst s k) (h' : IsFirst s k') : k = k' :=
  le_antisymm (not_lt.1 fun hlt => (h.2 _ hlt).not_ge (h'.1 k)) (not_lt.1 fun hlt => (h'.2 _ hlt).not_ge (h.1 k'))

theorem exists_first (s : Fin 64 → EReal) : ∃ k, IsFirst s k := by
  classical
  have hne : (Finset.univ.filter fun k => ∀ j, s j ≤ s k).Nonempty := by
    obtain ⟨k, -, hk⟩ := Finset.exists_max_image Finset.univ s ⟨0, Finset.mem_univ _⟩
    exact ⟨k, Finset.mem_filter.2 ⟨Finset.mem_univ _, fun j => hk j (Finset.mem_univ _)⟩⟩
  have hk := (Finset.mem_filter.1 (Finset.min'_mem _ hne)).2
  refine ⟨_, hk, fun j hj => lt_of_le_of_ne (hk j) fun e => ?_⟩
  exact (Finset.min'_le _ j (Finset.mem_filter.2 ⟨Finset.mem_univ _, fun i => e ▸ hk i⟩)).not_gt hj

/-- The first greatest entry. -/
def first (s : Fin 64 → EReal) : Fin 64 := (exists_first s).choose

theorem first_spec (s : Fin 64 → EReal) : IsFirst s (first s) := (exists_first s).choose_spec
theorem first_eq {s : Fin 64 → EReal} {k : Fin 64} (h : IsFirst s k) : first s = k := (first_spec s).unique h

theorem low_bits : Ideal.ofBits .f32 0xFF800000#32 = ⊥ := by simp [Ideal.ofBits, Ideal.ieee]

/-- The greatest entry, as a maximum taken from negative infinity. -/
theorem fold_max (s : Fin 64 → EReal) : Finset.fold max (Ideal.ofBits .f32 0xFF800000#32) s Finset.univ = s (first s) := by
  rw [low_bits]
  exact le_antisymm (Finset.fold_max_le _ |>.2 ⟨bot_le, fun j _ => (first_spec s).1 j⟩)
    (Finset.le_fold_max _ |>.2 (.inr ⟨_, Finset.mem_univ _, le_rfl⟩))

theorem toInt_small (n : ℕ) (h : n < 65) : (BitVec.ofNat 32 n).toInt = n := by
  rw [BitVec.toInt_eq_toNat_of_lt (by rw [BitVec.toNat_ofNat]; omega), BitVec.toNat_ofNat, Nat.mod_eq_of_lt (by omega)]

theorem toInt_minsi (a b : BitVec 32) : (IntOp.minsi a b).toInt = min a.toInt b.toInt := by
  unfold IntOp.minsi
  rw [BitVec.slt_eq_decide]
  rcases lt_or_ge a.toInt b.toInt with h | h
  · simp [h, h.le]
  · simp [h, not_lt.2 h]

/-- The least position whose entry is the greatest, the positions of other entries replaced by 64. -/
theorem fold_min (s : Fin 64 → EReal) (top : EReal) (ht : top = s (first s)) :
    Finset.fold IntOp.minsi (2147483647#32) (fun k : Fin 64 => if s k = top then BitVec.ofNat 32 k.val else 64#32) Finset.univ
      = BitVec.ofNat 32 (first s).val := by
  subst ht
  have hk := (first s).isLt
  have hv : (BitVec.ofNat 32 (first s).val).toInt = (first s).val := toInt_small _ (by omega)
  apply BitVec.eq_of_toInt_eq
  rw [← Finset.fold_hom (op' := min) (m := BitVec.toInt) toInt_minsi, hv]
  refine le_antisymm (Finset.fold_min_le _ |>.2 (.inr ⟨first s, Finset.mem_univ _, ?_⟩)) (Finset.le_fold_min _ |>.2 ⟨?_, fun j _ => ?_⟩)
  · rw [if_pos rfl, hv]
  · rw [show (2147483647#32).toInt = 2147483647 from by decide]
    omega
  · have hj := j.isLt
    split
    · next h =>
      rw [toInt_small _ (by omega)]
      have : first s ≤ j := not_lt.1 fun hlt => ((first_spec s).2 j hlt).ne h
      exact_mod_cast this
    · rw [show (64#32).toInt = 64 from by decide]
      omega

end Cert.Router
-- ==== Proof.Softmax.lean ====
/- The weights, their total and the probabilities of one column of real scores. -/
module

public import proofs.«01_k».proof.Proof.Column

@[expose] public section

noncomputable section

namespace Cert.Router

open Idealize.ShloMosaic

/-- The exponential of a score, the greatest score taken off first. -/
def weight (s : Fin 64 → EReal) (j : Fin 64) : EReal := Ideal.exp (s j - s (first s))
/-- The sum of a column's weights. -/
def total (s : Fin 64 → EReal) : EReal := ∑ j, weight s j
/-- A weight over the total. -/
def prob (s : Fin 64 → EReal) (j : Fin 64) : EReal := Ideal.div (weight s j) (total s)

theorem sum_coe {n : ℕ} (f : Fin n → ℝ) : ∑ j, ((f j : ℝ) : EReal) = ((∑ j, f j : ℝ) : EReal) := by
  classical
  induction (Finset.univ : Finset (Fin n)) using Finset.induction_on with
  | empty => simp
  | insert a S ha ih => rw [Finset.sum_insert ha, Finset.sum_insert ha, ih, EReal.coe_add]

/-- With real scores the probabilities are real, as the formula says. -/
theorem prob_real (r : Fin 64 → ℝ) (s : Fin 64 → EReal) (hs : ∀ j, s j = r j) : ∃ z : ℝ, 0 < z ∧ total s = z ∧
    ∀ j, prob s j = ((Real.exp (r j - r (first s)) / z : ℝ) : EReal) := by
  have hw : ∀ j, weight s j = ((Real.exp (r j - r (first s)) : ℝ) : EReal) := fun j => by
    unfold weight
    rw [hs, hs, ← EReal.coe_sub, Ideal.exp_coe]
  have ht : total s = ((∑ j, Real.exp (r j - r (first s)) : ℝ) : EReal) := by
    unfold total
    rw [← sum_coe]
    exact Finset.sum_congr rfl fun j _ => hw j
  have hz : 0 < ∑ j, Real.exp (r j - r (first s)) := Finset.sum_pos (fun j _ => Real.exp_pos _) ⟨0, Finset.mem_univ _⟩
  refine ⟨_, hz, ht, fun j => ?_⟩
  unfold prob
  rw [ht, hw, Ideal.div_coe hz.ne', ← EReal.coe_mul, mul_one_div]

/-- The first greatest probability is at the first greatest score. -/
theorem first_prob (s : Fin 64 → EReal) (hs : ∀ j, ∃ r : ℝ, s j = r) : first (prob s) = first s := by
  choose r hr using hs
  obtain ⟨z, hz, -, hp⟩ := prob_real r s hr
  have hle : ∀ j, r j ≤ r (first s) := fun j => by
    have := (first_spec s).1 j
    rwa [hr, hr, EReal.coe_le_coe_iff] at this
  refine first_eq ⟨fun j => ?_, fun j hj => ?_⟩
  · rw [hp, hp, EReal.coe_le_coe_iff]
    exact div_le_div_of_nonneg_right (Real.exp_le_exp.2 (sub_le_sub_right (hle j) _)) hz.le
  · have := (first_spec s).2 j hj
    rw [hr, hr, EReal.coe_lt_coe_iff] at this
    rw [hp, hp, EReal.coe_lt_coe_iff]
    exact div_lt_div_of_pos_right (Real.exp_lt_exp.2 (sub_lt_sub_right this _)) hz

/-- The greatest probability is the reciprocal of the total. -/
theorem prob_first (s : Fin 64 → EReal) (hs : ∀ j, ∃ r : ℝ, s j = r) : prob s (first s) = Ideal.div 1 (total s) := by
  choose r hr using hs
  have hw : weight s (first s) = 1 := by
    unfold weight
    rw [hr, ← EReal.coe_sub, sub_self, Ideal.exp_coe, Real.exp_zero]
    rfl
  unfold prob
  rw [hw]

/-- Probabilities are above negative infinity. -/
theorem bot_lt_prob (s : Fin 64 → EReal) (hs : ∀ j, ∃ r : ℝ, s j = r) (j : Fin 64) : ⊥ < prob s j := by
  choose r hr using hs
  obtain ⟨z, -, -, hp⟩ := prob_real r s hr
  rw [hp]
  exact EReal.bot_lt_coe _

/-- A sum of products of reals is real. -/
theorem real_sum {n : ℕ} (a b : Fin n → EReal) (ha : ∀ d, ∃ r : ℝ, a d = r) (hb : ∀ d, ∃ r : ℝ, b d = r) :
    ∃ r : ℝ, ∑ d, a d * b d = r := by
  choose p hp using ha
  choose q hq using hb
  exact ⟨∑ d, p d * q d, by rw [← sum_coe]; exact Finset.sum_congr rfl fun d _ => by rw [hp, hq, EReal.coe_mul]⟩

end Cert.Router
-- ==== Proof.Counting.lean ====
/- Counts of tokens, held as numbers by one program and as words by the other. -/
module

public import Idealize.ShloMosaic.Lib.Pointwise
public import Idealize.ShloMosaic.PureOps.Ideal
public import Idealize.ShloMosaic.PureOps.Ideal.Laws

@[expose] public section

noncomputable section

namespace Cert.Router

open Idealize.ShloMosaic

/-- A sum of naturals, each taken as an extended real, is their sum taken so. -/
theorem sum_natCast {n : ℕ} (f : Fin n → ℕ) : ∑ j, ((f j : ℕ) : EReal) = ((∑ j, f j : ℕ) : EReal) := by
  classical
  induction (Finset.univ : Finset (Fin n)) using Finset.induction_on with
  | empty => simp
  | insert a S ha ih => rw [Finset.sum_insert ha, Finset.sum_insert ha, ih, Nat.cast_add]

/-- A sum over the first `N` positions of which only those up to `r` count. -/
theorem sum_upto {N : ℕ} (f : ℕ → ℕ) (r : Fin N) :
    ∑ c : Fin N, (if c.val ≤ r.val then f c.val else 0) = ∑ u ∈ Finset.range (r.val + 1), f u := by
  rw [Fin.sum_univ_eq_sum_range (fun c => if c ≤ r.val then f c else 0) N, ← Finset.sum_filter]
  congr 1
  ext u
  simp only [Finset.mem_filter, Finset.mem_range]
  have := r.isLt
  omega

/-- The sum of `f` over the positions before `t`. -/
def upto (f : ℕ → ℕ) (t : ℕ) : ℕ := ∑ u ∈ Finset.range t, f u

theorem upto_add (f : ℕ → ℕ) (a b : ℕ) : upto f (a + b) = upto f a + ∑ u ∈ Finset.range b, f (a + u) :=
  Finset.sum_range_add f a b

theorem upto_le (f : ℕ → ℕ) (hf : ∀ u, f u ≤ 1) (t : ℕ) : upto f t ≤ t := by
  unfold upto
  calc ∑ u ∈ Finset.range t, f u ≤ ∑ u ∈ Finset.range t, 1 := Finset.sum_le_sum fun u _ => hf u
    _ = t := by simp

theorem capacity_bits : Ideal.ofBits .f32 0x43200000#32 = ((160 : ℕ) : EReal) := by
  simp [Ideal.ofBits, Ideal.ieee, -EReal.coe_mul]
  norm_num
  rfl

/-- Comparing a count with the capacity, as numbers. -/
theorem count_le (n : ℕ) : ((n : ℕ) : EReal) ≤ Ideal.ofBits .f32 0x43200000#32 ↔ n ≤ 160 := by
  rw [capacity_bits, Nat.cast_le]

/-- Comparing a count with the capacity, as words. -/
theorem count_sle (n : ℕ) (h : n ≤ 4096) : IntOp.cmpi .sle (BitVec.ofNat 32 n) 160#32 = if n ≤ 160 then 1#1 else 0#1 := by
  have hn : (BitVec.ofNat 32 n).toInt = n := by
    rw [BitVec.toInt_eq_toNat_of_lt (by rw [BitVec.toNat_ofNat]; omega), BitVec.toNat_ofNat, Nat.mod_eq_of_lt (by omega)]
  have h1 : (160#32).toInt = 160 := by decide
  unfold IntOp.cmpi
  simp only [BitVec.sle_eq_decide, hn, h1]
  by_cases hc : n ≤ 160
  · rw [if_pos hc, decide_eq_true (by omega)]; rfl
  · rw [if_neg hc, decide_eq_false (by omega)]; rfl

theorem number_one : (FloatOps.sitofp (F := Ideal) .f32 1#32 : EReal) = 1 := by
  show (((1#32).toInt : ℝ) : EReal) = 1
  rw [show (1#32).toInt = 1 from by decide, Int.cast_one]
  rfl
theorem number_zero : (FloatOps.sitofp (F := Ideal) .f32 0#32 : EReal) = 0 := by
  show (((0#32).toInt : ℝ) : EReal) = 0
  rw [show (0#32).toInt = 0 from by decide, Int.cast_zero]
  rfl

/-- Comparing two positions, as words, made a number. -/
theorem before_number (a b : ℕ) (ha : a < 1024) (hb : b < 1024) :
    (FloatOps.sitofp (F := Ideal) .f32 (BitVec.setWidth 32 (IntOp.cmpi .sle (BitVec.ofNat 32 a) (BitVec.ofNat 32 b))) : EReal)
      = if a ≤ b then 1 else 0 := by
  have hn : ∀ n, n < 1024 → (BitVec.ofNat 32 n).toInt = n := fun n h => by
    rw [BitVec.toInt_eq_toNat_of_lt (by rw [BitVec.toNat_ofNat]; omega), BitVec.toNat_ofNat, Nat.mod_eq_of_lt (by omega)]
  unfold IntOp.cmpi
  simp only [BitVec.sle_eq_decide, hn a ha, hn b hb]
  by_cases hc : a ≤ b
  · rw [if_pos hc, decide_eq_true (by omega)]
    exact number_one
  · rw [if_neg hc, decide_eq_false (by omega)]
    exact number_zero

/-- Two positions equal, as words, widened. -/
theorem same_word (a b : ℕ) (ha : a < 64) (hb : b < 64) :
    BitVec.setWidth 32 (IntOp.cmpi .eq (BitVec.ofNat 32 a) (BitVec.ofNat 32 b)) = BitVec.ofNat 32 (if a = b then 1 else 0) := by
  have hi : BitVec.ofNat 32 a = BitVec.ofNat 32 b ↔ a = b :=
    ⟨fun e => by
      have := congrArg BitVec.toNat e
      rw [BitVec.toNat_ofNat, BitVec.toNat_ofNat] at this
      omega, fun e => by rw [e]⟩
  unfold IntOp.cmpi
  by_cases hc : a = b
  · rw [if_pos hc, hc]; simp
  · rw [if_neg hc]
    simp only [beq_eq_false_iff_ne.2 (fun e => hc (hi.1 e))]
    rfl

/-- That word as a number. -/
theorem same_number (a b : ℕ) (ha : a < 64) (hb : b < 64) :
    (FloatOps.sitofp (F := Ideal) .f32 (BitVec.setWidth 32 (IntOp.cmpi .eq (BitVec.ofNat 32 a) (BitVec.ofNat 32 b))) : EReal)
      = ((if a = b then 1 else 0 : ℕ) : EReal) := by
  rw [same_word a b ha hb]
  split
  · exact number_one.trans Nat.cast_one.symm
  · exact number_zero.trans Nat.cast_zero.symm

/-- A number that is zero or one, as a word. -/
theorem word_of_number (n : ℕ) (h : n ≤ 1) : FloatOps.fptosi (F := Ideal) (φ := .f32) 32 ((n : ℕ) : EReal) = BitVec.ofNat 32 n := by
  show Ideal.fptosi 32 ((n : ℕ) : EReal) = _
  unfold Ideal.fptosi
  rw [← EReal.coe_natCast, Ideal.toIntClamped_coe]
  rcases (by omega : n = 0 ∨ n = 1) with rfl | rfl
  · simp
  · simp

end Cert.Router
-- ==== Proof.Model.lean ====
/- What the router computes, stated once for both programs. -/
module

public import proofs.«01_k».proof.Proof.Softmax
public import proofs.«01_k».proof.Proof.Counting

@[expose] public section

noncomputable section

namespace Cert.Router

open Idealize.ShloMosaic

variable (x : (⟨3, ![2, 4096, 4096]⟩ : Shape).Idx → EReal) (w : (⟨2, ![64, 4096]⟩ : Shape).Idx → EReal)

/-- A token's scores for the experts. -/
def column (g : Fin 2) (t : Fin 4096) : Fin 64 → EReal := fun e => ∑ d, x (ix3 g t d) * w (ix2 e d)

/-- One at the tokens whose first greatest score is at expert `e`. -/
def hit (g : Fin 2) (e : Fin 64) (u : ℕ) : ℕ := if h : u < 4096 then (if (first (column x w g ⟨u, h⟩)).val = e.val then 1 else 0) else 0

theorem hit_at (g : Fin 2) (e : Fin 64) (t : Fin 4096) :
    hit x w g e t.val = if (first (column x w g t)).val = e.val then 1 else 0 := dif_pos t.isLt

theorem hit_le (g : Fin 2) (e : Fin 64) (u : ℕ) : hit x w g e u ≤ 1 := by
  unfold hit
  split
  · split <;> omega
  · omega

/-- One at the tokens sent to expert `e`: those that chose it, up to its capacity. -/
def sent (g : Fin 2) (t : Fin 4096) (e : Fin 64) : ℕ := if upto (hit x w g e) (t.val + 1) ≤ 160 then hit x w g e t.val else 0

/-- With real entries a column is real. -/
theorem column_real (hx : ∀ i, ∃ r : ℝ, x i = r) (hw : ∀ i, ∃ r : ℝ, w i = r) (g : Fin 2) (t : Fin 4096) (e : Fin 64) :
    ∃ r : ℝ, column x w g t e = r := real_sum _ _ (fun _ => hx _) (fun _ => hw _)

end Cert.Router
-- ==== Proof.Blocks.lean ====
/- What one block of tokens is given and what its scores are. -/
module

public import proofs.«01_k».proof.Proof.Arrays
public import proofs.«01_k».proof.Proof.Model

@[expose] public section

set_option maxRecDepth 16384

noncomputable section

namespace Cert.KernelIdeal.Router

open Cert.KernelIdeal.Gen Cert.Router
open Idealize.ShloMosaic Idealize.ShloMosaic.TcCoe

variable (m : (ℓ : Loc nD τ sig) → Buf (Elt Ideal) ℓ) (c : Dev nD)

/-- The tokens' array and the experts'. -/
abbrev tokens : FVec Ideal S2x4096x4096 .f32 := m ((c.tc : Thread nD τ).loc main_arg0)
abbrev experts : FVec Ideal S64x4096 .f32 := m ((c.tc : Thread nD τ).loc main_arg1)

theorem block_tokens (t : Fin cfg0.N) (r : Fin 1024) (d : Fin 2048) (i : S2x4096x4096.Idx) (h0 : (i 0).val = t.val / 8)
    (h1 : (i 1).val = t.val / 2 % 4 * 1024 + r.val) (h2 : (i 2).val = t.val % 2 * 2048 + d.val) :
    (iblk m c 0 t : Vec Ideal S1x1024x2048 .f32) (ix3 0 r d) = tokens m c i := by
  have hp := (places t).1
  blk_simp [iblk, V]
  refine congrArg (tokens m c) (funext fun a => Fin.ext ?_)
  match a with
  | ⟨0, _⟩ => blk_simp [hp]; exact h0.symm
  | ⟨1, _⟩ => blk_simp [hp]; exact h1.symm
  | ⟨2, _⟩ => blk_simp [hp]; exact h2.symm

theorem block_experts (t : Fin cfg0.N) (e : Fin 64) (d : Fin 2048) (i : S64x4096.Idx) (h0 : (i 0).val = e.val)
    (h1 : (i 1).val = t.val % 2 * 2048 + d.val) : (iblk m c 1 t : Vec Ideal S64x2048 .f32) (ix2 e d) = experts m c i := by
  have hp := (places t).2.1
  blk_simp [iblk, V]
  refine congrArg (experts m c) (funext fun a => Fin.ext ?_)
  match a with
  | ⟨0, _⟩ => blk_simp [hp]; exact h0.symm
  | ⟨1, _⟩ => blk_simp [hp]; exact h1.symm

/-- One of the two terms of a score: the products of one half of the columns. -/
theorem product_entry (b k : ℕ) (hb : b < 8) (hk : k < 2) (g : Fin 2) (t : Fin 4096) (e : Fin 64) (r : Fin 1024) (hg : g.val = b / 4)
    (ht : t.val = b % 4 * 1024 + r.val) : (product m c (2 * b + k) (ix2 e r) : EReal)
      = ∑ d : Fin 2048, (tokens m c (ix3 g t ⟨k * 2048 + d.val, by omega⟩) : EReal) * experts m c (ix2 e ⟨k * 2048 + d.val, by omega⟩) := by
  have hn : (point (2 * b + k)).val = 2 * b + k := Nat.mod_eq_of_lt (by omega)
  unfold product
  pointwise [k0_pay2]
  refine Finset.sum_congr rfl fun d _ => ?_
  rw [mul_comm]
  congr 1
  · refine block_tokens m c _ r d _ ?_ ?_ ?_
    · show g.val = _; omega
    · show t.val = _; omega
    · show k * 2048 + d.val = _; omega
  · refine block_experts m c _ e d _ rfl ?_
    show k * 2048 + d.val = _; omega

/-- A block's scores are the model's. -/
theorem scores_at (b : ℕ) (hb : b < 8) (g : Fin 2) (t : Fin 4096) (e : Fin 64) (r : Fin 1024) (hg : g.val = b / 4)
    (ht : t.val = b % 4 * 1024 + r.val) : (k0_pay6 (product m c (2 * b + 1)) (product m c (2 * b)) (ix2 e r) : EReal)
      = column (tokens m c) (experts m c) g t e := by
  pointwise [k0_pay6]
  rw [product_entry m c b 1 hb (by omega) g t e r hg ht, show 2 * b = 2 * b + 0 from rfl,
    product_entry m c b 0 hb (by omega) g t e r hg ht]
  unfold column
  rw [Fin.sum_univ_two_halves 2048 2048 rfl]
  congr 1

end Cert.KernelIdeal.Router
-- ==== Proof.Payloads.lean ====
/- What the kernel makes of one block's scores and of the counts before it. -/
module

public import proofs.«01_k».proof.Proof.Run
public import proofs.«01_k».proof.Proof.Softmax
public import proofs.«01_k».proof.Proof.Counting

@[expose] public section

set_option maxRecDepth 16384

noncomputable section

namespace Cert.KernelIdeal.Router

open Cert.KernelIdeal.Gen Cert.Router
open Idealize.ShloMosaic

variable (a b : FVec Ideal S64x1024 .f32) (n : FVec Ideal S64x1 .f32)

/-- The greatest score of a token. -/
theorem top_at (r : Fin 1024) (s : Fin 64 → EReal) (hs : ∀ e, (k0_pay6 a b (ix2 e r) : EReal) = s e) :
    (k0_pay7 a b (ix2 0 r) : EReal) = s (first s) := by
  pointwise [k0_pay7]
  rw [show (fun e => (k0_pay6 a b (ix2 e r) : EReal)) = s from funext hs]
  exact fold_max s

/-- The total of a token's weights. -/
theorem total_at (r : Fin 1024) (s : Fin 64 → EReal) (hs : ∀ e, (k0_pay6 a b (ix2 e r) : EReal) = s e) :
    (k0_pay8 a b (ix2 0 r) : EReal) = total s := by
  pointwise [k0_pay8]
  rw [top_at a b r s hs]
  unfold total weight
  exact Finset.sum_congr rfl fun e _ => by rw [hs]

/-- One at the expert chosen, as a number. -/
theorem hot_at (e : Fin 64) (r : Fin 1024) (s : Fin 64 → EReal) (hs : ∀ e, (k0_pay6 a b (ix2 e r) : EReal) = s e) :
    (k0_pay9 a b (ix2 e r) : EReal) = ((if (first s).val = e.val then 1 else 0 : ℕ) : EReal) := by
  pointwise [k0_pay9]
  simp only [hs]
  rw [fold_min s _ (top_at a b r s hs), same_number _ _ e.isLt (first s).isLt]
  simp only [eq_comm]

/-- The count of the tokens so far that chose an expert. -/
theorem count_at (e : Fin 64) (r : Fin 1024) (f : ℕ → ℕ) (k : ℕ) (hn : (n (ix2 e 0) : EReal) = ((upto f k : ℕ) : EReal))
    (hf : ∀ q : Fin 1024, (k0_pay9 a b (ix2 e q) : EReal) = ((f (k + q.val) : ℕ) : EReal)) :
    (k0_pay10 a b n (ix2 e r) : EReal) = ((upto f (k + r.val + 1) : ℕ) : EReal) := by
  pointwise [k0_pay10]
  rw [hn, Finset.sum_congr rfl (g := fun q : Fin 1024 => ((if q.val ≤ r.val then f (k + q.val) else 0 : ℕ) : EReal)) fun q _ => ?_,
    sum_natCast, sum_upto (fun u => f (k + u)) r, ← Nat.cast_add, Nat.add_assoc k, upto_add, Nat.add_comm]
  rw [hf, before_number _ _ q.isLt r.isLt]
  split
  · rw [mul_one]
  · rw [mul_zero, Nat.cast_zero]

/-- The counts left for the next block. -/
theorem counts_at (e : Fin 64) (f : ℕ → ℕ) (k : ℕ) (hn : (n (ix2 e 0) : EReal) = ((upto f k : ℕ) : EReal))
    (hf : ∀ q : Fin 1024, (k0_pay9 a b (ix2 e q) : EReal) = ((f (k + q.val) : ℕ) : EReal)) :
    (k0_pay11 a b n (ix2 e 0) : EReal) = ((upto f (k + 1024) : ℕ) : EReal) := by
  pointwise [k0_pay11]
  exact count_at a b n e 1023 f k hn hf

/-- The entry kept where the count is within the capacity. -/
theorem kept_at (e : Fin 64) (r : Fin 1024) (f : ℕ → ℕ) (k : ℕ) (h1 : ∀ u, f u ≤ 1) (hn : (n (ix2 e 0) : EReal) = ((upto f k : ℕ) : EReal))
    (hf : ∀ q : Fin 1024, (k0_pay9 a b (ix2 e q) : EReal) = ((f (k + q.val) : ℕ) : EReal)) :
    k0_pay12 a b n (ix3 0 e r) = BitVec.ofNat 32 (if upto f (k + r.val + 1) ≤ 160 then f (k + r.val) else 0) := by
  pointwise [k0_pay12]
  rw [count_at a b n e r f k hn hf, hf]
  simp only [count_le]
  split
  · exact word_of_number _ (h1 _)
  · rw [← Nat.cast_zero]
    exact word_of_number 0 (by omega)

end Cert.KernelIdeal.Router
-- ==== Proof.KernelValue.lean ====
/- The kernel's three results, entry by entry. -/
module

public import proofs.«01_k».proof.Proof.Blocks
public import proofs.«01_k».proof.Proof.Payloads

@[expose] public section

set_option maxRecDepth 16384

noncomputable section

namespace Cert.KernelIdeal.Router

open Cert.KernelIdeal.Gen Cert.Router
open Idealize.ShloMosaic Idealize.ShloMosaic.TcCoe

variable (m : (ℓ : Loc nD τ sig) → Buf (Elt Ideal) ℓ) (c : Dev nD)

/-- A block's group, and its tokens' places in the group. -/
def group (b : ℕ) (hb : b < 8) : Fin 2 := ⟨b / 4, by omega⟩
def place (b : ℕ) (r : Fin 1024) : Fin 4096 := ⟨b % 4 * 1024 + r.val, by omega⟩

theorem scores_block (b : ℕ) (hb : b < 8) (r : Fin 1024) (e : Fin 64) :
    (k0_pay6 (product m c (2 * b + 1)) (product m c (2 * b)) (ix2 e r) : EReal)
      = column (tokens m c) (experts m c) (group b hb) (place b r) e :=
  scores_at m c b hb _ _ e r rfl rfl

/-- The one-hot entries of a block are the model's. -/
theorem hot_block (b : ℕ) (hb : b < 8) (e : Fin 64) (r : Fin 1024) :
    (k0_pay9 (product m c (2 * b + 1)) (product m c (2 * b)) (ix2 e r) : EReal)
      = ((hit (tokens m c) (experts m c) (group b hb) e (b % 4 * 1024 + r.val) : ℕ) : EReal) := by
  rw [hot_at _ _ e r _ (scores_block m c b hb r)]
  exact congrArg _ (hit_at (tokens m c) (experts m c) (group b hb) e (place b r)).symm

/-- The counts before a block: the tokens of its group's earlier blocks. -/
theorem counts_block (b : ℕ) (hb : b < 8) (e : Fin 64) :
    (countsBefore m c b (ix2 e 0) : EReal)
      = ((upto (hit (tokens m c) (experts m c) (group b hb) e) (b % 4 * 1024) : ℕ) : EReal) := by
  induction b with
  | zero =>
    rw [countsBefore_start m c 0 rfl]
    pointwise [k0_pay1]
    exact Nat.cast_zero.symm
  | succ b ih =>
    by_cases h : (b + 1) % 4 = 0
    · rw [countsBefore_start m c _ h, h]
      pointwise [k0_pay1]
      exact Nat.cast_zero.symm
    · have hg : group (b + 1) hb = group b (by omega) := Fin.ext (by show (b + 1) / 4 = b / 4; omega)
      rw [countsBefore_later m c b h, hg, show (b + 1) % 4 * 1024 = b % 4 * 1024 + 1024 by omega]
      exact counts_at _ _ _ e _ _ (ih (by omega)) (hot_block m c b (by omega) e)

theorem index_block (b : ℕ) (hb : b < 8) (e : Fin 64) (r : Fin 1024) :
    outIndex m c b (ix3 0 e r) = BitVec.ofNat 32 (sent (tokens m c) (experts m c) (group b hb) (place b r) e) :=
  kept_at _ _ _ e r _ _ (hit_le _ _ _ e) (counts_block m c b hb e) (hot_block m c b hb e)

theorem prob_block (b : ℕ) (hb : b < 8) (r : Fin 1024) :
    (outProb m c b (ix3 0 0 r) : EReal) = Ideal.div 1 (total (column (tokens m c) (experts m c) (group b hb) (place b r))) := by
  unfold outProb
  pointwise [k0_pay4]
  rw [total_at _ _ r _ (scores_block m c b hb r)]

theorem logits_block (b : ℕ) (hb : b < 8) (e : Fin 64) (r : Fin 1024) :
    (outLogits m c b (ix3 0 e r) : EReal) = column (tokens m c) (experts m c) (group b hb) (place b r) e := by
  unfold outLogits
  pointwise [k0_pay5]
  exact scores_block m c b hb r e

/-- The block a token is in, and its place there. -/
theorem block_lt (g : Fin 2) (t : Fin 4096) : 4 * g.val + t.val / 1024 < 8 := by omega
theorem group_of (g : Fin 2) (t : Fin 4096) : group (4 * g.val + t.val / 1024) (block_lt g t) = g :=
  Fin.ext (by show (4 * g.val + t.val / 1024) / 4 = g.val; omega)
theorem place_of (g : Fin 2) (t : Fin 4096) : place (4 * g.val + t.val / 1024) ⟨t.val % 1024, Nat.mod_lt _ (by norm_num)⟩ = t :=
  Fin.ext (by show (4 * g.val + t.val / 1024) % 4 * 1024 + t.val % 1024 = t.val; omega)

variable (g : Fin 2) (t : Fin 4096) (e : Fin 64)

theorem index_at : transpose S2x4096x64 [0, 2, 1] (placed (outIndex m c)) Facts₀.transposes_S2x64x4096_S2x4096x64_0_2_1 (ix3 g t e)
    = BitVec.ofNat 32 (sent (tokens m c) (experts m c) g t e) := by
  pointwise
  refine (index_block m c _ (block_lt g t) e _).trans ?_
  rw [group_of]
  exact congrArg (fun q => BitVec.ofNat 32 (sent (tokens m c) (experts m c) g q e)) (place_of g t)

theorem prob_at : (transpose S2x4096x1 [0, 2, 1] (placed (outProb m c)) Facts₀.transposes_S2x1x4096_S2x4096x1_0_2_1 (ix3 g t 0) : EReal)
    = Ideal.div 1 (total (column (tokens m c) (experts m c) g t)) := by
  pointwise
  refine (prob_block m c _ (block_lt g t) _).trans ?_
  rw [group_of]
  exact congrArg (fun q => Ideal.div 1 (total (column (tokens m c) (experts m c) g q))) (place_of g t)

theorem logits_at : (transpose S2x4096x64 [0, 2, 1] (placed (outLogits m c)) Facts₀.transposes_S2x64x4096_S2x4096x64_0_2_1 (ix3 g t e) : EReal)
    = column (tokens m c) (experts m c) g t e := by
  pointwise
  refine (logits_block m c _ (block_lt g t) e _).trans ?_
  rw [group_of]
  exact congrArg (fun q => column (tokens m c) (experts m c) g q e) (place_of g t)

end Cert.KernelIdeal.Router
-- ==== Proof.Argmax.lean ====
/- The reference's choice of an expert: a fold that keeps the better of two pairs of a value and a position. -/
module

public import proofs.«01_k».proof.Proof.Reference
public import proofs.«01_k».proof.Proof.Column

@[expose] public section

set_option maxRecDepth 16384

noncomputable section

namespace Cert.ReferenceIdeal.Router

open Idealize.ShloMosaic Cert.Router
open Facts₀

/-- Pair `q` is no better than pair `r`: its value is smaller, or equal at a position no smaller. -/
def NoBetter (q r : Ideal .f32 × BitVec 32) : Prop := (q.1 : EReal) < r.1 ∨ ((q.1 : EReal) = r.1 ∧ r.2.toInt ≤ q.2.toInt)

theorem NoBetter.refl (q : Ideal .f32 × BitVec 32) : NoBetter q q := .inr ⟨rfl, le_rfl⟩
theorem NoBetter.trans {p q r : Ideal .f32 × BitVec 32} (h : NoBetter p q) (h' : NoBetter q r) : NoBetter p r := by
  rcases h with h | ⟨h, k⟩ <;> rcases h' with h' | ⟨h', k'⟩
  · exact .inl (h.trans h')
  · exact .inl (h.trans_eq h')
  · exact .inl (h.trans_lt h')
  · exact .inr ⟨h.trans h', k'.trans k⟩

/-- The fold's step keeps one of its two pairs, and the other is no better. -/
theorem step (a b : Ideal .f32 × BitVec 32) :
    (reducer_argmax_f32_i32 a b = a ∧ NoBetter b a) ∨ (reducer_argmax_f32_i32 a b = b ∧ NoBetter a b) := by
  obtain ⟨a1, a2⟩ := a
  obtain ⟨b1, b2⟩ := b
  unfold reducer_argmax_f32_i32 NoBetter
  simp only [Ideal.cmpf_def, Ideal.cmp, IntOp.cmpi, Scalar.select, IntOp.ori, IntOp.andi]
  rcases lt_trichotomy (a1 : EReal) b1 with h | h | h
  · right
    simp [h, h.ne, h.not_gt]
  · subst h
    rcases lt_or_ge a2.toInt b2.toInt with k | k
    · left
      simp [BitVec.slt_eq_decide, k, k.le]
    · right
      simp [BitVec.slt_eq_decide, k, not_lt.2 k]
  · left
    simp [h, h.ne', h.not_gt]

/-- What a fold of the steps ends at is one of the pairs folded, and none of them is better. -/
theorem fold_steps (L : List (Ideal .f32 × BitVec 32)) (a : Ideal .f32 × BitVec 32) :
    L.foldl reducer_argmax_f32_i32 a ∈ a :: L ∧ ∀ q ∈ a :: L, NoBetter q (L.foldl reducer_argmax_f32_i32 a) := by
  induction L generalizing a with
  | nil => exact ⟨List.mem_singleton.2 rfl, fun q hq => by rw [List.mem_singleton.1 hq]; exact NoBetter.refl _⟩
  | cons b L ih =>
    obtain ⟨hm, hb⟩ := ih (reducer_argmax_f32_i32 a b)
    rw [List.foldl_cons]
    have h0 := hb _ List.mem_cons_self
    have hs := step a b
    refine ⟨?_, fun q hq => ?_⟩
    · rcases List.mem_cons.1 hm with h | h
      · rw [h]
        rcases hs with ⟨e, -⟩ | ⟨e, -⟩ <;> rw [e] <;> simp
      · exact List.mem_cons_of_mem _ (List.mem_cons_of_mem _ h)
    · rcases List.mem_cons.1 hq with rfl | hq
      · rcases hs with ⟨e, k⟩ | ⟨e, k⟩ <;> rw [e] at h0 ⊢
        · exact h0
        · exact k.trans h0
      · rcases List.mem_cons.1 hq with rfl | hq
        · rcases hs with ⟨e, k⟩ | ⟨e, k⟩ <;> rw [e] at h0 ⊢
          · exact k.trans h0
          · exact h0
        · exact hb _ (List.mem_cons_of_mem _ hq)

/-- The chosen expert is the first greatest entry, when no entry is negative infinity. -/
theorem chosen_at (p : FVec Ideal S2x4096x64 .f32) (g : Fin 2) (t : Fin 4096) (hp : ∀ e, ⊥ < (p (ix3 g t e) : EReal)) :
    chosen p (ix2 g t) = BitVec.ofNat 32 (first fun e => p (ix3 g t e)).val := by
  unfold chosen
  rw [Ideal.argReduce_eq_reduce2, Host.reduce2_eq_foldl_fiber]
  generalize hL : Host.argReduceFiber p (iotaInDim S2x4096x64 32 2) reducesTo_S2x4096x64_S2x4096_d2 (ix2 g t) = L
  generalize ha : ((constant (F := Ideal) S_ .f32 0xFF800000#32 (Shape.Idx.first h_S_), constantI S_ 32 0#32 (Shape.Idx.first h_S_))
    : Ideal .f32 × BitVec 32) = a
  have hbot : (a.1 : EReal) = ⊥ := by rw [← ha]; exact low_bits
  have hmem : ∀ q, q ∈ L ↔ ∃ e : Fin 64, q = (p (ix3 g t e), BitVec.ofNat 32 e.val) := fun q => by
    rw [← hL, Host.argReduceFiber, List.mem_map]
    constructor
    · rintro ⟨n, hn, rfl⟩
      rw [List.mem_filter, decide_eq_true_iff, Shape.ReducesTo.fiber_r3_a2] at hn
      obtain ⟨k, hk⟩ := hn.2
      exact ⟨k, by rw [← hk]; rfl⟩
    · rintro ⟨e, rfl⟩
      refine ⟨S2x4096x64.rowMajor (ix3 g t e), ?_, ?_⟩
      · rw [List.mem_filter, decide_eq_true_iff, Shape.ReducesTo.fiber_r3_a2, Equiv.symm_apply_apply]
        exact ⟨List.mem_finRange _, e, rfl⟩
      · rw [Equiv.symm_apply_apply]; rfl
  obtain ⟨hm, hb⟩ := fold_steps L a
  generalize List.foldl reducer_argmax_f32_i32 a L = r at hm hb ⊢
  have hbe : ∀ e : Fin 64, NoBetter (p (ix3 g t e), BitVec.ofNat 32 e.val) r := fun e =>
    hb _ (List.mem_cons_of_mem _ ((hmem _).2 ⟨e, rfl⟩))
  rcases List.mem_cons.1 hm with h | h
  · exfalso
    have h0 := hp 0
    rcases hbe 0 with k | ⟨k, -⟩
    · rw [h, hbot] at k
      exact not_lt_bot k
    · rw [h, hbot] at k
      exact h0.ne' k
  · obtain ⟨k, rfl⟩ := (hmem _).1 h
    have hf : IsFirst (fun e => p (ix3 g t e)) k := by
      refine ⟨fun j => ?_, fun j hj => ?_⟩
      · rcases hbe j with i | ⟨i, -⟩
        · exact i.le
        · exact i.le
      · rcases hbe j with i | ⟨-, i⟩
        · exact i
        · exfalso
          have h1 := j.isLt
          have h2 := k.isLt
          rw [toInt_small _ (by omega), toInt_small _ (by omega)] at i
          have : k ≤ j := by exact_mod_cast i
          exact this.not_gt hj
    rw [first_eq hf]

end Cert.ReferenceIdeal.Router
-- ==== Proof.Running.lean ====
/- The reference's running sums over the tokens. -/
module

public import proofs.«01_k».proof.Proof.Reference
public import proofs.«01_k».proof.Proof.Counting

@[expose] public section

set_option maxRecDepth 16384

noncomputable section

namespace Cert.ReferenceIdeal.Router

open Idealize.ShloMosaic Cert.Router
open Facts₀

/-- A fold of additions of words that hold naturals holds their sum. -/
theorem fold_words {ι : Type} (L : List ι) (x : ι → BitVec 32) (f : ι → ℕ) (hx : ∀ i, x i = BitVec.ofNat 32 (f i)) (a : ℕ) :
    L.foldl (fun r i => IntOp.addi r (x i)) (BitVec.ofNat 32 a) = BitVec.ofNat 32 (a + (L.map f).sum) := by
  induction L generalizing a with
  | nil => simp
  | cons i L ih =>
    rw [List.foldl_cons, hx, show IntOp.addi (BitVec.ofNat 32 a) (BitVec.ofNat 32 (f i)) = BitVec.ofNat 32 (a + f i) from
      (BitVec.ofNat_add _ _).symm, ih, List.map_cons, List.sum_cons, Nat.add_assoc]

/-- A sum over a window whose last position is `t`, of which only the positions from 0 on count. -/
theorem sum_window (f : ℕ → ℕ) (n t : ℕ) (ht : t ≤ n) :
    ∑ k : Fin (n + 1), (if n ≤ t + k.val then f (t + k.val - n) else 0) = upto f (t + 1) := by
  obtain ⟨d, rfl⟩ := Nat.exists_eq_add_of_le ht
  rw [Fin.sum_univ_eq_sum_range (fun k => if t + d ≤ t + k then f (t + k - (t + d)) else 0), show t + d + 1 = d + (t + 1) by omega,
    Finset.sum_range_add, Finset.sum_eq_zero, zero_add]
  · unfold upto
    refine Finset.sum_congr rfl fun u _ => ?_
    rw [if_pos (by omega)]
    congr 1
    omega
  · intro u hu
    rw [Finset.mem_range] at hu
    rw [if_neg (by omega)]

/-- The positions of the window in order. -/
abbrev window : Fin (⟨3, ![1, 4096, 1]⟩ : Shape).numel ≃ (⟨3, ![1, 4096, 1]⟩ : Shape).Idx := (⟨3, ![1, 4096, 1]⟩ : Shape).rowMajor.symm

/-- The running sum at a token: the sum of what stands at it and before it. -/
theorem running_at (h : IVec S2x4096x64 32) (g : Fin 2) (t : Fin 4096) (e : Fin 64) (f : ℕ → ℕ)
    (hf : ∀ u : Fin 4096, h (ix3 g u e) = BitVec.ofNat 32 (f u.val)) :
    running h (ix3 g t e) = BitVec.ofNat 32 (upto f (t.val + 1)) := by
  have ht := t.isLt
  unfold running Host.reduceWindow
  refine (fold_words _ _ (fun n => if 4095 ≤ t.val + (window n 1).val
    then f (t.val + (window n 1).val - 4095) else 0) (fun n => ?_) 0).trans ?_
  · have h0 : (window n 0).val < 1 := (window n 0).isLt
    have h1 : (window n 1).val < 4096 := (window n 1).isLt
    have h2 : (window n 2).val < 1 := (window n 2).isLt
    dsimp only
    split
    · next hin =>
      have := hin 1
      change 4095 ≤ t.val * 1 + (window n 1).val ∧ _ at this
      rw [if_pos (by omega)]
      refine (congrArg h (funext fun a => Fin.ext ?_)).trans (hf ⟨t.val + (window n 1).val - 4095, by omega⟩)
      match a with
      | ⟨0, _⟩ => show g.val * 1 + (window n 0).val - 0 = g.val; omega
      | ⟨1, _⟩ => show t.val * 1 + (window n 1).val - 4095 = t.val + (window n 1).val - 4095; omega
      | ⟨2, _⟩ => show e.val * 1 + (window n 2).val - 0 = e.val; omega
    · next hin =>
      rw [if_neg fun hle => hin fun a => ?_]
      · rfl
      · have hg := g.isLt
        have he := e.isLt
        match a with
        | ⟨0, _⟩ => show 0 ≤ g.val * 1 + (window n 0).val ∧ g.val * 1 + (window n 0).val - 0 < 2; omega
        | ⟨1, _⟩ => show 4095 ≤ t.val * 1 + (window n 1).val ∧ t.val * 1 + (window n 1).val - 4095 < 4096; omega
        | ⟨2, _⟩ => show 0 ≤ e.val * 1 + (window n 2).val ∧ e.val * 1 + (window n 2).val - 0 < 64; omega
  · rw [Nat.zero_add, ← sum_window f 4095 t.val (by omega), ← List.ofFn_eq_map, List.sum_ofFn,
      Equiv.sum_comp window (fun k => if 4095 ≤ t.val + (k 1).val then f (t.val + (k 1).val - 4095) else 0),
      sum_idx3]
    simp only [Finset.univ_unique, Finset.sum_singleton]
    rfl

end Cert.ReferenceIdeal.Router
-- ==== Proof.ReferenceValue.lean ====
/- The reference's three results, entry by entry. -/
module

public import proofs.«01_k».proof.Proof.Argmax
public import proofs.«01_k».proof.Proof.Running
public import proofs.«01_k».proof.Proof.Model

@[expose] public section

set_option maxRecDepth 16384

noncomputable section

namespace Cert.ReferenceIdeal.Router

open Idealize.ShloMosaic Cert.Router
open Facts₀

variable (x : FVec Ideal S2x4096x4096 .f32) (w : FVec Ideal S64x4096 .f32) (g : Fin 2) (t : Fin 4096) (e : Fin 64)

theorem logits_at : (logits x w (ix3 g t e) : EReal) = column x w g t e := by
  pointwise [logits, column]

theorem rowMax_at (l : FVec Ideal S2x4096x64 .f32) (s : Fin 64 → EReal) (hs : ∀ e, (l (ix3 g t e) : EReal) = s e) :
    (rowMax l (ix2 g t) : EReal) = s (first s) := by
  pointwise [rowMax]
  rw [show (fun e => (l (ix3 g t e) : EReal)) = s from funext hs]
  exact fold_max s

theorem weights_at (l : FVec Ideal S2x4096x64 .f32) (s : Fin 64 → EReal) (hs : ∀ e, (l (ix3 g t e) : EReal) = s e) :
    (weights l (ix3 g t e) : EReal) = weight s e := by
  pointwise [weights, spread]
  rw [rowMax_at g t l s hs, low_bits, hs, max_eq_right bot_le]
  rfl

theorem probs_at (u : FVec Ideal S2x4096x64 .f32) (s : Fin 64 → EReal) (hs : ∀ e, (u (ix3 g t e) : EReal) = weight s e) :
    (probs u (ix3 g t e) : EReal) = prob s e := by
  pointwise [probs, spread]
  rw [hs, Finset.sum_congr rfl fun e _ => hs e]
  rfl

/-- The probabilities the reference works with. -/
theorem prob_at : (probs (weights (logits x w)) (ix3 g t e) : EReal) = prob (column x w g t) e :=
  probs_at g t e _ _ fun e => weights_at g t e _ _ fun e => logits_at x w g t e

variable (hx : ∀ i, ∃ r : ℝ, (x i : EReal) = r) (hw : ∀ i, ∃ r : ℝ, (w i : EReal) = r)
include hx hw

theorem best_at : (best (probs (weights (logits x w))) (ix3 g t 0) : EReal) = Ideal.div 1 (total (column x w g t)) := by
  pointwise [best]
  rw [rowMax_at g t _ _ fun e => prob_at x w g t e, first_prob _ (column_real x w hx hw g t), prob_first _ (column_real x w hx hw g t)]

theorem chosen_value : chosen (probs (weights (logits x w))) (ix2 g t) = BitVec.ofNat 32 (first (column x w g t)).val := by
  rw [chosen_at _ g t fun e => ?_]
  · rw [show (fun e => (probs (weights (logits x w)) (ix3 g t e) : EReal)) = prob (column x w g t) from funext fun e => prob_at x w g t e,
      first_prob _ (column_real x w hx hw g t)]
  · rw [prob_at]
    exact bot_lt_prob _ (column_real x w hx hw g t) e

theorem oneHot_at : oneHot (chosen (probs (weights (logits x w)))) (ix3 g t e) = BitVec.ofNat 32 (hit x w g e t.val) := by
  pointwise [oneHot, spread]
  rw [chosen_value x w g t hx hw, same_word _ _ (Fin.isLt _) e.isLt, hit_at]

theorem kept_at : kept (oneHot (chosen (probs (weights (logits x w))))) (ix3 g t e) = BitVec.ofNat 32 (sent x w g t e) := by
  have hle := upto_le _ (hit_le x w g e) (t.val + 1)
  have ht := t.isLt
  pointwise [kept]
  rw [running_at _ g t e (hit x w g e) fun u => oneHot_at x w g u e hx hw, oneHot_at x w g t e hx hw, count_sle _ (by omega)]
  unfold sent
  rcases (by have := hit_le x w g e t.val; omega : hit x w g e t.val = 0 ∨ hit x w g e t.val = 1) with h | h <;> rw [h] <;> split <;> rfl

end Cert.ReferenceIdeal.Router
-- ==== Proof.Equation.lean ====
/- The equation: on real arguments the kernel's three arrays are the reference's. -/
module

public import proofs.«01_k».proof.Proof.KernelValue
public import proofs.«01_k».proof.Proof.ReferenceValue

@[expose] public section

set_option maxRecDepth 16384

noncomputable section

namespace Cert.Proof

open Idealize.ShloMosaic Idealize.ShloMosaic.TcCoe
open Cert.KernelIdeal (nD τ sig)
open Cert.KernelIdeal.Router (tokens experts placed outIndex outProb outLogits)
open Cert.ReferenceIdeal.Router (logits weights probs chosen oneHot kept best)

variable (m : (ℓ : Loc nD τ sig) → Buf (Elt Ideal) ℓ) (c : Dev nD)

theorem same_logits : transpose Cert.KernelIdeal.S2x4096x64 [0, 2, 1] (placed (outLogits m c)) Cert.KernelIdeal.Facts₀.transposes_S2x64x4096_S2x4096x64_0_2_1
    = logits (tokens m c) (experts m c) := by
  funext j
  idx_vars j
  exact (Cert.KernelIdeal.Router.logits_at m c _ _ _).trans (Cert.ReferenceIdeal.Router.logits_at _ _ _ _ _).symm

variable (hx : ∀ i, ∃ r : ℝ, (tokens m c i : EReal) = r) (hw : ∀ i, ∃ r : ℝ, (experts m c i : EReal) = r)
include hx hw

theorem same_prob : transpose Cert.KernelIdeal.S2x4096x1 [0, 2, 1] (placed (outProb m c)) Cert.KernelIdeal.Facts₀.transposes_S2x1x4096_S2x4096x1_0_2_1
    = best (probs (weights (logits (tokens m c) (experts m c)))) := by
  funext j
  idx_vars j
  obtain rfl : j2 = 0 := Subsingleton.elim _ _
  exact (Cert.KernelIdeal.Router.prob_at m c _ _).trans (Cert.ReferenceIdeal.Router.best_at _ _ _ _ hx hw).symm

theorem same_index : transpose Cert.KernelIdeal.S2x4096x64 [0, 2, 1] (placed (outIndex m c)) Cert.KernelIdeal.Facts₀.transposes_S2x64x4096_S2x4096x64_0_2_1
    = kept (oneHot (chosen (probs (weights (logits (tokens m c) (experts m c)))))) := by
  funext j
  idx_vars j
  exact (Cert.KernelIdeal.Router.index_at m c _ _ _).trans (Cert.ReferenceIdeal.Router.kept_at _ _ _ _ _ hx hw).symm

end Cert.Proof
-- ==== Proof.lean ====
/- The certificate's claim, assembled: each program's frame from its run, the two programs' results, and the claim itself. -/
module

public import proofs.«01_k».proof.Defs
public import proofs.«01_k».proof.Proof.Run
public import proofs.«01_k».proof.Proof.Transfer
public import proofs.«01_k».proof.Proof.Reference
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.SL.Sem

/-- On real arguments the two programs end with the same three results. -/
theorem same_results : Cert.algebraic_KernelIdeal_ReferenceIdeal_pre_finite := by
  intro m g m' g' hpre hagree
  refine ⟨_, _, _, Cert.KernelIdeal.Router.run_results m g, ?_⟩
  refine θ_run_mono (Cert.ReferenceIdeal.Router.run_main m' g') fun r h c => ?_
  obtain ⟨h0, h1, h2, h3⟩ := h c
  obtain ⟨hx, hw⟩ := Cert.Pre_finite.real_entries _ _ (hpre c)
  rw [(hagree c).1, (hagree c).2] at h0 h1 h2
  exact ⟨h0.trans (same_index m c hx hw).symm, h1.trans (same_prob m c hx hw).symm, h2.trans (same_logits m c).symm, h3⟩

theorem claim : Cert.Claim :=
  ⟨Cert.Kernel.Gen.facts, Cert.KernelIdeal.Gen.facts, Cert.ReferenceIdeal.Gen.facts, Cert.Pre_finite.facts, frame_printed,
    fun m ρ _ => Cert.KernelIdeal.Router.frame_main m ρ, fun m ρ _ => Cert.KernelIdeal.Router.frame_main m ρ,
    fun m ρ _ => Cert.ReferenceIdeal.Router.frame_main m ρ, fun m ρ _ => Cert.ReferenceIdeal.Router.frame_main m ρ,
    trivial, same_results⟩

end Cert.Proof

end
